-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries [hPre_finite_queries : Cert.Pre_finite_queries.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries [hPre_finite_queries : Cert.Pre_finite_queries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_queries [hKernelIdeal : Cert.KernelIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_queries [hReferenceIdeal : Cert.ReferenceIdeal.Facts] [hPre_finite_queries : Cert.Pre_finite_queries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8))
      ∧ r.2.sem = fun _ => 0)

def preserves_Kernel_KernelIdeal : Prop :=
  IdealRules.named_const.Statement Cert.KernelIdeal.κ "score_factor" .f32 0x3DE995B3#32 (((Real.log 2)⁻¹ * (Real.sqrt 160)⁻¹ : ℝ) : EReal)

def preserves_Reference_ReferenceIdeal : Prop :=
  IdealRules.named_const.Statement Cert.ReferenceIdeal.κ "ln2" .f32 0x3F317218#32 ((Real.log 2 : ℝ) : EReal)
  ∧ IdealRules.named_const.Statement Cert.ReferenceIdeal.κ "score_scale" .f32 0x3DA1E89B#32 (((Real.sqrt 160)⁻¹ : ℝ) : EReal)

def algebraic_KernelIdeal_ReferenceIdeal_pre_finite_queries [hKernelIdeal : Cert.KernelIdeal.Facts] [hReferenceIdeal : Cert.ReferenceIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hReference : Cert.Reference.Facts) (hPre_finite_queries : Cert.Pre_finite_queries.Facts),
    quiescent_Kernel (hKernel := hKernel)
    ∧ quiescent_KernelIdeal (hKernelIdeal := hKernelIdeal)
    ∧ quiescent_KernelIdeal_pre_finite_queries (hKernelIdeal := hKernelIdeal) (hPre_finite_queries := hPre_finite_queries)
    ∧ quiescent_ReferenceIdeal (hReferenceIdeal := hReferenceIdeal)
    ∧ quiescent_ReferenceIdeal_pre_finite_queries (hReferenceIdeal := hReferenceIdeal) (hPre_finite_queries := hPre_finite_queries)
    ∧ quiescent_Reference (hReference := hReference)
    ∧ preserves_Kernel_KernelIdeal
    ∧ preserves_Reference_ReferenceIdeal
    ∧ algebraic_KernelIdeal_ReferenceIdeal_pre_finite_queries (hKernelIdeal := hKernelIdeal) (hReferenceIdeal := hReferenceIdeal) (hPre_finite_queries := hPre_finite_queries)
-- ==== Pre_finite_queries.lean ====
abbrev S2x1024x8x160 : Shape := ⟨4, ![2, 1024, 8, 160]⟩
abbrev S2x8 : Shape := ⟨2, ![2, 8]⟩
abbrev S2047x8x160 : Shape := ⟨3, ![2047, 8, 160]⟩
abbrev S8 : Shape := ⟨1, ![8]⟩
abbrev S8x160 : Shape := ⟨2, ![8, 160]⟩
abbrev S_ : Shape := ⟨0, ![]⟩

class Facts : Prop where
  bitsLt_bf16_f32 : FTy.bits .bf16 < FTy.bits .f32
  bcast_S_S2x1024x8x160 : S_.BroadcastsInDim S2x1024x8x160 (![] : Fin 0 → Fin S2x1024x8x160.rank)
  reducesTo_S2x1024x8x160_S_d0_1_2_3 : S2x1024x8x160.ReducesTo [0, 1, 2, 3] S_
  h_S_ : 0 < S_.numel
  bcast_S_S8x160 : S_.BroadcastsInDim S8x160 (![] : Fin 0 → Fin S8x160.rank)
  reducesTo_S8x160_S_d0_1 : S8x160.ReducesTo [0, 1] S_

variable [Facts]

def fn {F : FTy → Type} [FloatOps F] (main_arg0 : FVec F S2x1024x8x160 .bf16) (main_arg1 : FVec F S2x1024x8x160 .fp8e4m3) (main_arg2 : FVec F S2x8 .f32) (main_arg3 : FVec F S2x1024x8x160 .fp8e4m3) (main_arg4 : FVec F S2x8 .f32) (main_arg5 : FVec F S2047x8x160 .fp8e4m3) (main_arg6 : FVec F S8 .f32) (main_arg7 : FVec F S8x160 .f32) (main_arg8 : FVec F S8x160 .f32) : IVec S_ 1 :=
  let main_v0 : FVec F S2x1024x8x160 .f32 := (extf .f32 · bitsLt_bf16_f32) main_arg0
  let main_v1 : FVec F S2x1024x8x160 .f32 := Host.absf main_v0
  let main_cst : FVec F S_ .f32 := constant S_ .f32 0x7F7FFFFF#32
  let main_v2 : FVec F S2x1024x8x160 .f32 := broadcastInDim S2x1024x8x160 ![] bcast_S_S2x1024x8x160 main_cst
  let main_v3 : IVec S2x1024x8x160 1 := cmpf .ole main_v1 main_v2
  let main_c : IVec S_ 1 := constantI S_ 1 1#1
  let main_v4 : IVec S_ 1 := (fun x v => Host.reduce IntOp.andi x v reducesTo_S2x1024x8x160_S_d0_1_2_3 h_S_) main_v3 main_c
  let main_v5 : FVec F S8x160 .f32 := Host.absf main_arg7
  let main_cst_0 : FVec F S_ .f32 := constant S_ .f32 0x7F7FFFFF#32
  let main_v6 : FVec F S8x160 .f32 := broadcastInDim S8x160 ![] bcast_S_S8x160 main_cst_0
  let main_v7 : IVec S8x160 1 := cmpf .ole main_v5 main_v6
  let main_c_1 : IVec S_ 1 := constantI S_ 1 1#1
  let main_v8 : IVec S_ 1 := (fun x v => Host.reduce IntOp.andi x v reducesTo_S8x160_S_d0_1 h_S_) main_v7 main_c_1
  let main_v9 : IVec S_ 1 := andi main_v4 main_v8
  let main_v10 : FVec F S8x160 .f32 := Host.absf main_arg8
  let main_cst_2 : FVec F S_ .f32 := constant S_ .f32 0x7F7FFFFF#32
  let main_v11 : FVec F S8x160 .f32 := broadcastInDim S8x160 ![] bcast_S_S8x160 main_cst_2
  let main_v12 : IVec S8x160 1 := cmpf .ole main_v10 main_v11
  let main_c_3 : IVec S_ 1 := constantI S_ 1 1#1
  let main_v13 : IVec S_ 1 := (fun x v => Host.reduce IntOp.andi x v reducesTo_S8x160_S_d0_1 h_S_) main_v12 main_c_3
  let main_v14 : IVec S_ 1 := andi main_v9 main_v13
  main_v14
-- ==== Kernel.lean ====
abbrev S2x1024x8x160 : Shape := ⟨4, ![2, 1024, 8, 160]⟩
abbrev S2x8 : Shape := ⟨2, ![2, 8]⟩
abbrev S2047x8x160 : Shape := ⟨3, ![2047, 8, 160]⟩
abbrev S8 : Shape := ⟨1, ![8]⟩
abbrev S8x160 : Shape := ⟨2, ![8, 160]⟩
abbrev S2x8x160x1024 : Shape := ⟨4, ![2, 8, 160, 1024]⟩
abbrev S8x160x2047 : Shape := ⟨3, ![8, 160, 2047]⟩
abbrev S1x8 : Shape := ⟨2, ![1, 8]⟩
abbrev S2x4x160 : Shape := ⟨3, ![2, 4, 160]⟩
abbrev S2x1024x1280 : Shape := ⟨3, ![2, 1024, 1280]⟩
abbrev S2x2x4x1024 : Shape := ⟨4, ![2, 2, 4, 1024]⟩
abbrev S1x4x160 : Shape := ⟨3, ![1, 4, 160]⟩
abbrev S1x4x160x128 : Shape := ⟨4, ![1, 4, 160, 128]⟩
abbrev S1x4x160x1024 : Shape := ⟨4, ![1, 4, 160, 1024]⟩
abbrev S4x160x2048 : Shape := ⟨3, ![4, 160, 2048]⟩
abbrev S1x128x640 : Shape := ⟨3, ![1, 128, 640]⟩
abbrev S1x1x4x128 : Shape := ⟨4, ![1, 1, 4, 128]⟩
abbrev S1x1x160x128 : Shape := ⟨4, ![1, 1, 160, 128]⟩
abbrev S160x128 : Shape := ⟨2, ![160, 128]⟩
abbrev S1x1x160 : Shape := ⟨3, ![1, 1, 160]⟩
abbrev S1x160 : Shape := ⟨2, ![1, 160]⟩
abbrev S128x160 : Shape := ⟨2, ![128, 160]⟩
abbrev S128 : Shape := ⟨1, ![128]⟩
abbrev S1x128 : Shape := ⟨2, ![1, 128]⟩
abbrev S1x1x1x128 : Shape := ⟨4, ![1, 1, 1, 128]⟩
abbrev S1x1 : Shape := ⟨2, ![1, 1]⟩
abbrev S128x128 : Shape := ⟨2, ![128, 128]⟩
abbrev S1x1x160x1024 : Shape := ⟨4, ![1, 1, 160, 1024]⟩
abbrev S160x1024 : Shape := ⟨2, ![160, 1024]⟩
abbrev S128x1024 : Shape := ⟨2, ![128, 1024]⟩
abbrev S1x160x1152 : Shape := ⟨3, ![1, 160, 1152]⟩
abbrev S160x1152 : Shape := ⟨2, ![160, 1152]⟩
abbrev S128x1152 : Shape := ⟨2, ![128, 1152]⟩
abbrev S128x896 : Shape := ⟨2, ![128, 896]⟩
abbrev S128x2048 : Shape := ⟨2, ![128, 2048]⟩
abbrev S128x1 : Shape := ⟨2, ![128, 1]⟩
abbrev S128x640 : Shape := ⟨2, ![128, 640]⟩
abbrev S2x8x1024 : Shape := ⟨3, ![2, 8, 1024]⟩
abbrev S2x1024x8 : Shape := ⟨3, ![2, 1024, 8]⟩

abbrev nBuf : Space → Nat
  | .hbm => 27
  | .vmem => 22
  | .smem => 3
  | _ => 0

abbrev bufTy : (tb : Table) → Fin (tcTables nBuf tb) → BufTy
  | .hbm, ⟨0, _⟩ => ⟨S2x1024x8x160, .bf16⟩
  | .hbm, ⟨1, _⟩ => ⟨S2x1024x8x160, .fp8e4m3⟩
  | .hbm, ⟨2, _⟩ => ⟨S2x8, .f32⟩
  | .hbm, ⟨3, _⟩ => ⟨S2x1024x8x160, .fp8e4m3⟩
  | .hbm, ⟨4, _⟩ => ⟨S2x8, .f32⟩
  | .hbm, ⟨5, _⟩ => ⟨S2047x8x160, .fp8e4m3⟩
  | .hbm, ⟨6, _⟩ => ⟨S8, .f32⟩
  | .hbm, ⟨7, _⟩ => ⟨S8x160, .f32⟩
  | .hbm, ⟨8, _⟩ => ⟨S8x160, .f32⟩
  | .hbm, ⟨9, _⟩ => ⟨S2x8x160x1024, .bf16⟩
  | .hbm, ⟨10, _⟩ => ⟨S2x8x160x1024, .fp8e4m3⟩
  | .hbm, ⟨11, _⟩ => ⟨S2x8x160x1024, .fp8e4m3⟩
  | .hbm, ⟨12, _⟩ => ⟨S8x160x2047, .fp8e4m3⟩
  | .hbm, ⟨13, _⟩ => ⟨S1x8, .f32⟩
  | .hbm, ⟨14, _⟩ => ⟨S2x4x160, .f32⟩
  | .hbm, ⟨15, _⟩ => ⟨S2x4x160, .f32⟩
  | .hbm, ⟨16, _⟩ => ⟨S2x1024x1280, .bf16⟩
  | .hbm, ⟨17, _⟩ => ⟨S2x8x160x1024, .fp8e4m3⟩
  | .hbm, ⟨18, _⟩ => ⟨S2x2x4x1024, .f32⟩
  | .hbm, ⟨19, _⟩ => ⟨S2x8x160x1024, .fp8e4m3⟩
  | .hbm, ⟨20, _⟩ => ⟨S2x2x4x1024, .f32⟩
  | .hbm, ⟨21, _⟩ => ⟨S2x1024x8x160, .fp8e4m3⟩
  | .hbm, ⟨22, _⟩ => ⟨S2x8x1024, .f32⟩
  | .hbm, ⟨23, _⟩ => ⟨S2x1024x8, .f32⟩
  | .hbm, ⟨24, _⟩ => ⟨S2x1024x8x160, .fp8e4m3⟩
  | .hbm, ⟨25, _⟩ => ⟨S2x8x1024, .f32⟩
  | .hbm, ⟨26, _⟩ => ⟨S2x1024x8, .f32⟩
  | .local _ .vmem, ⟨0, _⟩ => ⟨S1x4x160, .f32⟩
  | .local _ .vmem, ⟨1, _⟩ => ⟨S1x4x160, .f32⟩
  | .local _ .vmem, ⟨2, _⟩ => ⟨S1x4x160, .f32⟩
  | .local _ .vmem, ⟨3, _⟩ => ⟨S1x4x160, .f32⟩
  | .local _ .vmem, ⟨4, _⟩ => ⟨S1x4x160x128, .bf16⟩
  | .local _ .vmem, ⟨5, _⟩ => ⟨S1x4x160x128, .bf16⟩
  | .local _ .vmem, ⟨6, _⟩ => ⟨S1x4x160x1024, .fp8e4m3⟩
  | .local _ .vmem, ⟨7, _⟩ => ⟨S1x4x160x1024, .fp8e4m3⟩
  | .local _ .vmem, ⟨8, _⟩ => ⟨S1x4x160x1024, .fp8e4m3⟩
  | .local _ .vmem, ⟨9, _⟩ => ⟨S1x4x160x1024, .fp8e4m3⟩
  | .local _ .vmem, ⟨10, _⟩ => ⟨S4x160x2048, .fp8e4m3⟩
  | .local _ .vmem, ⟨11, _⟩ => ⟨S4x160x2048, .fp8e4m3⟩
  | .local _ .vmem, ⟨12, _⟩ => ⟨S1x128x640, .bf16⟩
  | .local _ .vmem, ⟨13, _⟩ => ⟨S1x128x640, .bf16⟩
  | .local _ .vmem, ⟨14, _⟩ => ⟨S1x4x160x128, .fp8e4m3⟩
  | .local _ .vmem, ⟨15, _⟩ => ⟨S1x4x160x128, .fp8e4m3⟩
  | .local _ .vmem, ⟨16, _⟩ => ⟨S1x1x4x128, .f32⟩
  | .local _ .vmem, ⟨17, _⟩ => ⟨S1x1x4x128, .f32⟩
  | .local _ .vmem, ⟨18, _⟩ => ⟨S1x4x160x128, .fp8e4m3⟩
  | .local _ .vmem, ⟨19, _⟩ => ⟨S1x4x160x128, .fp8e4m3⟩
  | .local _ .vmem, ⟨20, _⟩ => ⟨S1x1x4x128, .f32⟩
  | .local _ .vmem, ⟨21, _⟩ => ⟨S1x1x4x128, .f32⟩
  | .local _ .smem, ⟨0, _⟩ => ⟨S2x8, .f32⟩
  | .local _ .smem, ⟨1, _⟩ => ⟨S2x8, .f32⟩
  | .local _ .smem, ⟨2, _⟩ => ⟨S1x8, .f32⟩
  | _, _ => ⟨S2x1024x8x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨3, ![2, 2, 8], ![false, false, false]⟩

def k0_mult1 (i : grid0.Coords) : BitVec 32 :=
  let c7_i32 : BitVec 32 := 7#32
  let arg2 : BitVec 32 := BitVec.ofNat 32 (i 2).val
  let v0 : BitVec 32 := Scalar.subi c7_i32 arg2
  let c128_i32 : BitVec 32 := 128#32
  let v1 : BitVec 32 := Scalar.muli v0 c128_i32
  v1
def k0_off1 (i : grid0.Coords) (c0_i32 : BitVec 32) : Fin 2 → Nat :=
  let arg0 : BitVec 32 := BitVec.ofNat 32 (i 0).val
  let v202 : Index := Scalar.indexCast arg0
  let arg1 : BitVec 32 := BitVec.ofNat 32 (i 1).val
  let c4_i32 : BitVec 32 := 4#32
  let v3 : BitVec 32 := Scalar.muli arg1 c4_i32
  let v4 : BitVec 32 := Scalar.addi v3 c0_i32
  let v203 : Index := Scalar.indexCast v4
  ![v202.toNat, v203.toNat]
def k0_off2 (i : grid0.Coords) (c0_i32 : BitVec 32) : Fin 2 → Nat :=
  let c0_72 : Index := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let v211 : Index := Scalar.indexCast v4
  ![0, v211.toNat]
def k0_off3 (i : grid0.Coords) : Fin 3 → Nat :=
  let c0_79 : Index := 0#32
  let c0_80 : Index := 0#32
  let c7_i32 : BitVec 32 := 7#32
  let arg2 : BitVec 32 := BitVec.ofNat 32 (i 2).val
  let v0 : BitVec 32 := Scalar.subi c7_i32 arg2
  let c128_i32 : BitVec 32 := 128#32
  let v1 : BitVec 32 := Scalar.muli v0 c128_i32
  let v2 : BitVec 32 := v1
  let v222 : Index := Scalar.indexCast v2
  ![0, 0, v222.toNat]
def k0_off4 (i : grid0.Coords) : Fin 3 → Nat :=
  let c1_181 : Index := 1#32
  let c0_182 : Index := 0#32
  let c7_i32 : BitVec 32 := 7#32
  let arg2 : BitVec 32 := BitVec.ofNat 32 (i 2).val
  let v0 : BitVec 32 := Scalar.subi c7_i32 arg2
  let c128_i32 : BitVec 32 := 128#32
  let v1 : BitVec 32 := Scalar.muli v0 c128_i32
  let v2 : BitVec 32 := v1
  let v473 : Index := Scalar.indexCast v2
  ![1, 0, v473.toNat]
def k0_off5 (i : grid0.Coords) : Fin 3 → Nat :=
  let c2_283 : Index := 2#32
  let c0_284 : Index := 0#32
  let c7_i32 : BitVec 32 := 7#32
  let arg2 : BitVec 32 := BitVec.ofNat 32 (i 2).val
  let v0 : BitVec 32 := Scalar.subi c7_i32 arg2
  let c128_i32 : BitVec 32 := 128#32
  let v1 : BitVec 32 := Scalar.muli v0 c128_i32
  let v2 : BitVec 32 := v1
  let v724 : Index := Scalar.indexCast v2
  ![2, 0, v724.toNat]
def k0_off6 (i : grid0.Coords) : Fin 3 → Nat :=
  let c3_384 : Index := 3#32
  let c0_385 : Index := 0#32
  let c7_i32 : BitVec 32 := 7#32
  let arg2 : BitVec 32 := BitVec.ofNat 32 (i 2).val
  let v0 : BitVec 32 := Scalar.subi c7_i32 arg2
  let c128_i32 : BitVec 32 := 128#32
  let v1 : BitVec 32 := Scalar.muli v0 c128_i32
  let v2 : BitVec 32 := v1
  let v975 : Index := Scalar.indexCast v2
  ![3, 0, v975.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x4x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x4x160 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x4x160x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x160x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x4x160x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4x160x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x128x640 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x4x160x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x4x160x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== KernelIdeal.lean ====
variable {F : FTy → Type} [FloatOps F] [Named F]
def κ : String → Option EReal := fun
  | "score_factor" => some (((Real.log 2)⁻¹ * (Real.sqrt 160)⁻¹ : ℝ) : EReal)
  | _ => none
-- ==== ReferenceIdeal.lean ====
variable {F : FTy → Type} [FloatOps F] [Named F]
def κ : String → Option EReal := fun
  | "ln2" => some ((Real.log 2 : ℝ) : EReal)
  | "score_scale" => some (((Real.sqrt 160)⁻¹ : ℝ) : EReal)
  | _ => none
-- ==== Reference.lean ====
abbrev S2x1024x8x160 : Shape := ⟨4, ![2, 1024, 8, 160]⟩
abbrev S2x8 : Shape := ⟨2, ![2, 8]⟩
abbrev S2047x8x160 : Shape := ⟨3, ![2047, 8, 160]⟩
abbrev S8 : Shape := ⟨1, ![8]⟩
abbrev S8x160 : Shape := ⟨2, ![8, 160]⟩
abbrev S2x1024x1280 : Shape := ⟨3, ![2, 1024, 1280]⟩
abbrev S2x1024x8 : Shape := ⟨3, ![2, 1024, 8]⟩
abbrev S1x1x8x160 : Shape := ⟨4, ![1, 1, 8, 160]⟩
abbrev S2x1024x8x1 : Shape := ⟨4, ![2, 1024, 8, 1]⟩
abbrev S8x2047x160 : Shape := ⟨3, ![8, 2047, 160]⟩
abbrev S1x8x2047x160 : Shape := ⟨4, ![1, 8, 2047, 160]⟩
abbrev S2x8x2047x160 : Shape := ⟨4, ![2, 8, 2047, 160]⟩
abbrev S16x2047x160 : Shape := ⟨3, ![16, 2047, 160]⟩
abbrev S16x1x1 : Shape := ⟨3, ![16, 1, 1]⟩
abbrev S1x8 : Shape := ⟨2, ![1, 8]⟩
abbrev S2x8x1024x160 : Shape := ⟨4, ![2, 8, 1024, 160]⟩
abbrev S16x1024x160 : Shape := ⟨3, ![16, 1024, 160]⟩
abbrev S16x1024x1024 : Shape := ⟨3, ![16, 1024, 1024]⟩
abbrev S16x1024x2047 : Shape := ⟨3, ![16, 1024, 2047]⟩
abbrev S16x2096128 : Shape := ⟨2, ![16, 2096128]⟩
abbrev S16x2095104 : Shape := ⟨2, ![16, 2095104]⟩
abbrev S16x1024x2046 : Shape := ⟨3, ![16, 1024, 2046]⟩
abbrev S2x8x1024 : Shape := ⟨3, ![2, 8, 1024]⟩
abbrev S16x1024x1 : Shape := ⟨3, ![16, 1024, 1]⟩
abbrev S16x1024 : Shape := ⟨2, ![16, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x8x160, .bf16⟩
  | .hbm, ⟨1, _⟩ => ⟨S2x1024x8x160, .fp8e4m3⟩
  | .hbm, ⟨2, _⟩ => ⟨S2x8, .f32⟩
  | .hbm, ⟨3, _⟩ => ⟨S2x1024x8x160, .fp8e4m3⟩
  | .hbm, ⟨4, _⟩ => ⟨S2x8, .f32⟩
  | .hbm, ⟨5, _⟩ => ⟨S2047x8x160, .fp8e4m3⟩
  | .hbm, ⟨6, _⟩ => ⟨S8, .f32⟩
  | .hbm, ⟨7, _⟩ => ⟨S8x160, .f32⟩
  | .hbm, ⟨8, _⟩ => ⟨S8x160, .f32⟩
  | .hbm, ⟨9, _⟩ => ⟨S2x1024x1280, .bf16⟩
  | .hbm, ⟨10, _⟩ => ⟨S2x1024x8x160, .fp8e4m3⟩
  | .hbm, ⟨11, _⟩ => ⟨S2x1024x8, .f32⟩
  | .hbm, ⟨12, _⟩ => ⟨S2x1024x8x160, .fp8e4m3⟩
  | .hbm, ⟨13, _⟩ => ⟨S2x1024x8, .f32⟩
  | .local _ .vmem, ⟨0, _⟩ => ⟨S2x1024x8x160, .bf16⟩
  | .local _ .vmem, ⟨1, _⟩ => ⟨S2x1024x8x160, .fp8e4m3⟩
  | .local _ .vmem, ⟨2, _⟩ => ⟨S2x8, .f32⟩
  | .local _ .vmem, ⟨3, _⟩ => ⟨S2x1024x8x160, .fp8e4m3⟩
  | .local _ .vmem, ⟨4, _⟩ => ⟨S2x8, .f32⟩
  | .local _ .vmem, ⟨5, _⟩ => ⟨S2047x8x160, .fp8e4m3⟩
  | .local _ .vmem, ⟨6, _⟩ => ⟨S8, .f32⟩
  | .local _ .vmem, ⟨7, _⟩ => ⟨S8x160, .f32⟩
  | .local _ .vmem, ⟨8, _⟩ => ⟨S8x160, .f32⟩
  | .local _ .vmem, ⟨9, _⟩ => ⟨S2x1024x1280, .bf16⟩
  | .local _ .vmem, ⟨10, _⟩ => ⟨S2x1024x8x160, .fp8e4m3⟩
  | .local _ .vmem, ⟨11, _⟩ => ⟨S2x1024x8, .f32⟩
  | .local _ .vmem, ⟨12, _⟩ => ⟨S2x1024x8x160, .fp8e4m3⟩
  | .local _ .vmem, ⟨13, _⟩ => ⟨S2x1024x8, .f32⟩
  | _, _ => ⟨S2x1024x8x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2x1024x8x160 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x8x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x8x160 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2047x8x160 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024x1280 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024x8x160 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024x8x160 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KernelFrame.lean ====
/- The frame of `Kernel`: one run of the body on whole staging buffers, and from it the run of the whole program with the
   argument arrays unchanged. What the body leaves in the five outputs is not named here, and neither is what it finds in the
   window of the relative-position codes: that window's last block reaches one row past its array, and the frame does not need it. -/
module

public import proofs.«01_k».proof.Proof.Gen.Kernel.Frame
public import proofs.«01_k».proof.Proof.Gen.Kernel.Skeleton
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_v10, main_v11, main_v12, main_v13, main_v8, main_v9}
/-- The operations after the call write only their own results. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 0 rfl).trans ((hA c 0).trans (V_main_arg2 m c)),
      ((h c).2 main_arg3 (Finset.mem_sdiff.mpr ⟨Pipeline.mem_restRefs_of main_arg3 (by decide) (by decide), by decide⟩)).trans (V_main_arg3 m c),
      (Pipeline.RDat.FramePostR.arr_in h c 1 rfl).trans ((hA c 1).trans (V_main_arg4 m c)),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S2x8 .f32 := win0_0.stage (cfg0.slots t 0)
/-- That buffer is a whole one. -/
abbrev hs0_0 (t : Fin cfg0.N) : (ms0_0 t).IsWhole := hstage0_0 ((cfg0.slots t 0).cast nbuf0_0)
/-- The buffer that the window uses at a point. -/
abbrev ms0_1 (t : Fin cfg0.N) : Memref sig .tc .smem S2x8 .f32 := win0_1.stage (cfg0.slots t 1)
/-- That buffer is a whole one. -/
abbrev hs0_1 (t : Fin cfg0.N) : (ms0_1 t).IsWhole := hstage0_1 ((cfg0.slots t 1).cast nbuf0_1)
/-- The buffer that the window uses at a point. -/
abbrev ms0_2 (t : Fin cfg0.N) : Memref sig .tc .smem S1x8 .f32 := win0_2.stage (cfg0.slots t 2)
/-- That buffer is a whole one. -/
abbrev hs0_2 (t : Fin cfg0.N) : (ms0_2 t).IsWhole := hstage0_2 ((cfg0.slots t 2).cast nbuf0_2)
/-- The buffer that the window uses at a point. -/
abbrev ms0_3 (t : Fin cfg0.N) : Memref sig .tc .vmem S1x4x160 .f32 := win0_3.stage (cfg0.slots t 3)
/-- That buffer is a whole one. -/
abbrev hs0_3 (t : Fin cfg0.N) : (ms0_3 t).IsWhole := hstage0_3 ((cfg0.slots t 3).cast nbuf0_3)
/-- The buffer that the window uses at a point. -/
abbrev ms0_4 (t : Fin cfg0.N) : Memref sig .tc .vmem S1x4x160 .f32 := win0_4.stage (cfg0.slots t 4)
/-- That buffer is a whole one. -/
abbrev hs0_4 (t : Fin cfg0.N) : (ms0_4 t).IsWhole := hstage0_4 ((cfg0.slots t 4).cast nbuf0_4)
/-- The buffer that the window uses at a point. -/
abbrev ms0_5 (t : Fin cfg0.N) : Memref sig .tc .vmem S1x4x160x128 .bf16 := win0_5.stage (cfg0.slots t 5)
/-- That buffer is a whole one. -/
abbrev hs0_5 (t : Fin cfg0.N) : (ms0_5 t).IsWhole := hstage0_5 ((cfg0.slots t 5).cast nbuf0_5)
/-- The buffer that the window uses at a point. -/
abbrev ms0_6 (t : Fin cfg0.N) : Memref sig .tc .vmem S1x4x160x1024 .fp8e4m3 := win0_6.stage (cfg0.slots t 6)
/-- That buffer is a whole one. -/
abbrev hs0_6 (t : Fin cfg0.N) : (ms0_6 t).IsWhole := hstage0_6 ((cfg0.slots t 6).cast nbuf0_6)
/-- The buffer that the window uses at a point. -/
abbrev ms0_7 (t : Fin cfg0.N) : Memref sig .tc .vmem S1x4x160x1024 .fp8e4m3 := win0_7.stage (cfg0.slots t 7)
/-- That buffer is a whole one. -/
abbrev hs0_7 (t : Fin cfg0.N) : (ms0_7 t).IsWhole := hstage0_7 ((cfg0.slots t 7).cast nbuf0_7)
/-- The buffer that the window uses at a point. -/
abbrev ms0_8 (t : Fin cfg0.N) : Memref sig .tc .vmem S4x160x2048 .fp8e4m3 := win0_8.stage (cfg0.slots t 8)
/-- That buffer is a whole one. -/
abbrev hs0_8 (t : Fin cfg0.N) : (ms0_8 t).IsWhole := hstage0_8 ((cfg0.slots t 8).cast nbuf0_8)
/-- The buffer that the window uses at a point. -/
abbrev ms0_9 (t : Fin cfg0.N) : Memref sig .tc .vmem S1x128x640 .bf16 := win0_9.stage (cfg0.slots t 9)
/-- That buffer is a whole one. -/
abbrev hs0_9 (t : Fin cfg0.N) : (ms0_9 t).IsWhole := hstage0_9 ((cfg0.slots t 9).cast nbuf0_9)
/-- The buffer that the window uses at a point. -/
abbrev ms0_10 (t : Fin cfg0.N) : Memref sig .tc .vmem S1x4x160x128 .fp8e4m3 := win0_10.stage (cfg0.slots t 10)
/-- That buffer is a whole one. -/
abbrev hs0_10 (t : Fin cfg0.N) : (ms0_10 t).IsWhole := hstage0_10 ((cfg0.slots t 10).cast nbuf0_10)
/-- The buffer that the window uses at a point. -/
abbrev ms0_11 (t : Fin cfg0.N) : Memref sig .tc .vmem S1x1x4x128 .f32 := win0_11.stage (cfg0.slots t 11)
/-- That buffer is a whole one. -/
abbrev hs0_11 (t : Fin cfg0.N) : (ms0_11 t).IsWhole := hstage0_11 ((cfg0.slots t 11).cast nbuf0_11)
/-- The buffer that the window uses at a point. -/
abbrev ms0_12 (t : Fin cfg0.N) : Memref sig .tc .vmem S1x4x160x128 .fp8e4m3 := win0_12.stage (cfg0.slots t 12)
/-- That buffer is a whole one. -/
abbrev hs0_12 (t : Fin cfg0.N) : (ms0_12 t).IsWhole := hstage0_12 ((cfg0.slots t 12).cast nbuf0_12)
/-- The buffer that the window uses at a point. -/
abbrev ms0_13 (t : Fin cfg0.N) : Memref sig .tc .vmem S1x1x4x128 .f32 := win0_13.stage (cfg0.slots t 13)
/-- That buffer is a whole one. -/
abbrev hs0_13 (t : Fin cfg0.N) : (ms0_13 t).IsWhole := hstage0_13 ((cfg0.slots t 13).cast nbuf0_13)

-- (the run's proof term is large: checking it walks past the default budget)
set_option maxHeartbeats 1000000 in
/-- The body's triple: on whole staging memrefs — the inputs' at their contents,
    the FORGOTTEN outputs' (9, 10, 11, 12, 13) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg3 : Memref sig .tc .smem S2x8 .f32) (harg3 : arg3.IsWhole) (arg4 : Memref sig .tc .smem S2x8 .f32) (harg4 : arg4.IsWhole) (arg5 : Memref sig .tc .smem S1x8 .f32) (harg5 : arg5.IsWhole) (arg6 : Memref sig .tc .vmem S1x4x160 .f32) (harg6 : arg6.IsWhole) (arg7 : Memref sig .tc .vmem S1x4x160 .f32) (harg7 : arg7.IsWhole) (arg8 : Memref sig .tc .vmem S1x4x160x128 .bf16) (harg8 : arg8.IsWhole) (arg9 : Memref sig .tc .vmem S1x4x160x1024 .fp8e4m3) (harg9 : arg9.IsWhole) (arg10 : Memref sig .tc .vmem S1x4x160x1024 .fp8e4m3) (harg10 : arg10.IsWhole) (arg11 : Memref sig .tc .vmem S4x160x2048 .fp8e4m3) (harg11 : arg11.IsWhole) (arg12 : Memref sig .tc .vmem S1x128x640 .bf16) (harg12 : arg12.IsWhole) (arg13 : Memref sig .tc .vmem S1x4x160x128 .fp8e4m3) (harg13 : arg13.IsWhole) (arg14 : Memref sig .tc .vmem S1x1x4x128 .f32) (harg14 : arg14.IsWhole) (arg15 : Memref sig .tc .vmem S1x4x160x128 .fp8e4m3) (harg15 : arg15.IsWhole) (arg16 : Memref sig .tc .vmem S1x1x4x128 .f32) (harg16 : arg16.IsWhole)
    (x0 : Vec F S2x8 .f32) (x1 : Vec F S2x8 .f32) (x2 : Vec F S1x8 .f32) (x3 : Vec F S1x4x160 .f32) (x4 : Vec F S1x4x160 .f32) (x5 : Vec F S1x4x160x128 .bf16) (x6 : Vec F S1x4x160x1024 .fp8e4m3) (x7 : Vec F S1x4x160x1024 .fp8e4m3) (x8 : Vec F S4x160x2048 .fp8e4m3) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_relpos_attn i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_relpos_attn_eq_skeleton]; unfold cc0_relpos_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-! ## The pipeline's proof data -/

/-- The windows this certificate FORGETS (8, 9, 10, 11, 12, 13): nothing reads what the kernel leaves in them, so nothing
    of it is named (Lib/Pipeline/Dat.lean `Dat.toRForget`). -/
def forgets0 : Fin 14 → Bool := fun w => w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- A point leaves this input's block as it was. -/
theorem after0_1 (c : Dev nD) (t : Fin cfg0.N) : (dats m 0 c).after 1 t = iblk m c 1 t := by dsimp only [dats]
/-- A point leaves this input's block as it was. -/
theorem after0_2 (c : Dev nD) (t : Fin cfg0.N) : (dats m 0 c).after 2 t = iblk m c 2 t := by dsimp only [dats]
/-- A point leaves this input's block as it was. -/
theorem after0_3 (c : Dev nD) (t : Fin cfg0.N) : (dats m 0 c).after 3 t = iblk m c 3 t := by dsimp only [dats]
/-- A point leaves this input's block as it was. -/
theorem after0_4 (c : Dev nD) (t : Fin cfg0.N) : (dats m 0 c).after 4 t = iblk m c 4 t := by dsimp only [dats]
/-- A point leaves this input's block as it was. -/
theorem after0_5 (c : Dev nD) (t : Fin cfg0.N) : (dats m 0 c).after 5 t = iblk m c 5 t := by dsimp only [dats]
/-- A point leaves this input's block as it was. -/
theorem after0_6 (c : Dev nD) (t : Fin cfg0.N) : (dats m 0 c).after 6 t = iblk m c 6 t := by dsimp only [dats]
/-- A point leaves this input's block as it was. -/
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- A point finds this input's block as it was brought in. -/
theorem before0_1 (c : Dev nD) (t : Fin cfg0.N) (d) : (dats m 0 c).before 1 t d = iblk m c 1 t :=
  before0_1_of m (dats m 0 c) (A_eq m c 1) (after0_1 m c) t d
/-- A point finds this input's block as it was brought in. -/
theorem before0_2 (c : Dev nD) (t : Fin cfg0.N) (d) : (dats m 0 c).before 2 t d = iblk m c 2 t :=
  before0_2_of m (dats m 0 c) (A_eq m c 2) (after0_2 m c) t d
/-- A point finds this input's block as it was brought in. -/
theorem before0_3 (c : Dev nD) (t : Fin cfg0.N) (d) : (dats m 0 c).before 3 t d = iblk m c 3 t :=
  before0_3_of m (dats m 0 c) (A_eq m c 3) (after0_3 m c) t d
/-- A point finds this input's block as it was brought in. -/
theorem before0_4 (c : Dev nD) (t : Fin cfg0.N) (d) : (dats m 0 c).before 4 t d = iblk m c 4 t :=
  before0_4_of m (dats m 0 c) (A_eq m c 4) (after0_4 m c) t d
/-- A point finds this input's block as it was brought in. -/
theorem before0_5 (c : Dev nD) (t : Fin cfg0.N) (d) : (dats m 0 c).before 5 t d = iblk m c 5 t :=
  before0_5_of m (dats m 0 c) (A_eq m c 5) (after0_5 m c) t d
/-- A point finds this input's block as it was brought in. -/
theorem before0_6 (c : Dev nD) (t : Fin cfg0.N) (d) : (dats m 0 c).before 6 t d = iblk m c 6 t :=
  before0_6_of m (dats m 0 c) (A_eq m c 6) (after0_6 m c) t d
/-- A point finds this input's block as it was brought in. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 1200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 10, 11, 12, 13) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Run

end
-- ==== Proof.KernelIdealFrame.lean ====
/- The frame of `KernelIdeal`: one run of the body on whole staging buffers, and from it the run of the whole program with the
   argument arrays unchanged. What the body leaves in the five outputs is not named here, and neither is what it finds in the
   window of the relative-position codes: that window's last block reaches one row past its array, and the frame does not need it. -/
module

public import proofs.«01_k».proof.Proof.Gen.KernelIdeal.Frame
public import proofs.«01_k».proof.Proof.Gen.KernelIdeal.Skeleton
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_v10, main_v11, main_v12, main_v13, main_v8, main_v9}
/-- The operations after the call write only their own results. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 0 rfl).trans ((hA c 0).trans (V_main_arg2 m c)),
      ((h c).2 main_arg3 (Finset.mem_sdiff.mpr ⟨Pipeline.mem_restRefs_of main_arg3 (by decide) (by decide), by decide⟩)).trans (V_main_arg3 m c),
      (Pipeline.RDat.FramePostR.arr_in h c 1 rfl).trans ((hA c 1).trans (V_main_arg4 m c)),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S2x8 .f32 := win0_0.stage (cfg0.slots t 0)
/-- That buffer is a whole one. -/
abbrev hs0_0 (t : Fin cfg0.N) : (ms0_0 t).IsWhole := hstage0_0 ((cfg0.slots t 0).cast nbuf0_0)
/-- The buffer that the window uses at a point. -/
abbrev ms0_1 (t : Fin cfg0.N) : Memref sig .tc .smem S2x8 .f32 := win0_1.stage (cfg0.slots t 1)
/-- That buffer is a whole one. -/
abbrev hs0_1 (t : Fin cfg0.N) : (ms0_1 t).IsWhole := hstage0_1 ((cfg0.slots t 1).cast nbuf0_1)
/-- The buffer that the window uses at a point. -/
abbrev ms0_2 (t : Fin cfg0.N) : Memref sig .tc .smem S1x8 .f32 := win0_2.stage (cfg0.slots t 2)
/-- That buffer is a whole one. -/
abbrev hs0_2 (t : Fin cfg0.N) : (ms0_2 t).IsWhole := hstage0_2 ((cfg0.slots t 2).cast nbuf0_2)
/-- The buffer that the window uses at a point. -/
abbrev ms0_3 (t : Fin cfg0.N) : Memref sig .tc .vmem S1x4x160 .f32 := win0_3.stage (cfg0.slots t 3)
/-- That buffer is a whole one. -/
abbrev hs0_3 (t : Fin cfg0.N) : (ms0_3 t).IsWhole := hstage0_3 ((cfg0.slots t 3).cast nbuf0_3)
/-- The buffer that the window uses at a point. -/
abbrev ms0_4 (t : Fin cfg0.N) : Memref sig .tc .vmem S1x4x160 .f32 := win0_4.stage (cfg0.slots t 4)
/-- That buffer is a whole one. -/
abbrev hs0_4 (t : Fin cfg0.N) : (ms0_4 t).IsWhole := hstage0_4 ((cfg0.slots t 4).cast nbuf0_4)
/-- The buffer that the window uses at a point. -/
abbrev ms0_5 (t : Fin cfg0.N) : Memref sig .tc .vmem S1x4x160x128 .bf16 := win0_5.stage (cfg0.slots t 5)
/-- That buffer is a whole one. -/
abbrev hs0_5 (t : Fin cfg0.N) : (ms0_5 t).IsWhole := hstage0_5 ((cfg0.slots t 5).cast nbuf0_5)
/-- The buffer that the window uses at a point. -/
abbrev ms0_6 (t : Fin cfg0.N) : Memref sig .tc .vmem S1x4x160x1024 .fp8e4m3 := win0_6.stage (cfg0.slots t 6)
/-- That buffer is a whole one. -/
abbrev hs0_6 (t : Fin cfg0.N) : (ms0_6 t).IsWhole := hstage0_6 ((cfg0.slots t 6).cast nbuf0_6)
/-- The buffer that the window uses at a point. -/
abbrev ms0_7 (t : Fin cfg0.N) : Memref sig .tc .vmem S1x4x160x1024 .fp8e4m3 := win0_7.stage (cfg0.slots t 7)
/-- That buffer is a whole one. -/
abbrev hs0_7 (t : Fin cfg0.N) : (ms0_7 t).IsWhole := hstage0_7 ((cfg0.slots t 7).cast nbuf0_7)
/-- The buffer that the window uses at a point. -/
abbrev ms0_8 (t : Fin cfg0.N) : Memref sig .tc .vmem S4x160x2048 .fp8e4m3 := win0_8.stage (cfg0.slots t 8)
/-- That buffer is a whole one. -/
abbrev hs0_8 (t : Fin cfg0.N) : (ms0_8 t).IsWhole := hstage0_8 ((cfg0.slots t 8).cast nbuf0_8)
/-- The buffer that the window uses at a point. -/
abbrev ms0_9 (t : Fin cfg0.N) : Memref sig .tc .vmem S1x128x640 .bf16 := win0_9.stage (cfg0.slots t 9)
/-- That buffer is a whole one. -/
abbrev hs0_9 (t : Fin cfg0.N) : (ms0_9 t).IsWhole := hstage0_9 ((cfg0.slots t 9).cast nbuf0_9)
/-- The buffer that the window uses at a point. -/
abbrev ms0_10 (t : Fin cfg0.N) : Memref sig .tc .vmem S1x4x160x128 .fp8e4m3 := win0_10.stage (cfg0.slots t 10)
/-- That buffer is a whole one. -/
abbrev hs0_10 (t : Fin cfg0.N) : (ms0_10 t).IsWhole := hstage0_10 ((cfg0.slots t 10).cast nbuf0_10)
/-- The buffer that the window uses at a point. -/
abbrev ms0_11 (t : Fin cfg0.N) : Memref sig .tc .vmem S1x1x4x128 .f32 := win0_11.stage (cfg0.slots t 11)
/-- That buffer is a whole one. -/
abbrev hs0_11 (t : Fin cfg0.N) : (ms0_11 t).IsWhole := hstage0_11 ((cfg0.slots t 11).cast nbuf0_11)
/-- The buffer that the window uses at a point. -/
abbrev ms0_12 (t : Fin cfg0.N) : Memref sig .tc .vmem S1x4x160x128 .fp8e4m3 := win0_12.stage (cfg0.slots t 12)
/-- That buffer is a whole one. -/
abbrev hs0_12 (t : Fin cfg0.N) : (ms0_12 t).IsWhole := hstage0_12 ((cfg0.slots t 12).cast nbuf0_12)
/-- The buffer that the window uses at a point. -/
abbrev ms0_13 (t : Fin cfg0.N) : Memref sig .tc .vmem S1x1x4x128 .f32 := win0_13.stage (cfg0.slots t 13)
/-- That buffer is a whole one. -/
abbrev hs0_13 (t : Fin cfg0.N) : (ms0_13 t).IsWhole := hstage0_13 ((cfg0.slots t 13).cast nbuf0_13)

-- (the run's proof term is large: checking it walks past the default budget)
set_option maxHeartbeats 1000000 in
/-- The body's triple: on whole staging memrefs — the inputs' at their contents,
    the FORGOTTEN outputs' (9, 10, 11, 12, 13) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg3 : Memref sig .tc .smem S2x8 .f32) (harg3 : arg3.IsWhole) (arg4 : Memref sig .tc .smem S2x8 .f32) (harg4 : arg4.IsWhole) (arg5 : Memref sig .tc .smem S1x8 .f32) (harg5 : arg5.IsWhole) (arg6 : Memref sig .tc .vmem S1x4x160 .f32) (harg6 : arg6.IsWhole) (arg7 : Memref sig .tc .vmem S1x4x160 .f32) (harg7 : arg7.IsWhole) (arg8 : Memref sig .tc .vmem S1x4x160x128 .bf16) (harg8 : arg8.IsWhole) (arg9 : Memref sig .tc .vmem S1x4x160x1024 .fp8e4m3) (harg9 : arg9.IsWhole) (arg10 : Memref sig .tc .vmem S1x4x160x1024 .fp8e4m3) (harg10 : arg10.IsWhole) (arg11 : Memref sig .tc .vmem S4x160x2048 .fp8e4m3) (harg11 : arg11.IsWhole) (arg12 : Memref sig .tc .vmem S1x128x640 .bf16) (harg12 : arg12.IsWhole) (arg13 : Memref sig .tc .vmem S1x4x160x128 .fp8e4m3) (harg13 : arg13.IsWhole) (arg14 : Memref sig .tc .vmem S1x1x4x128 .f32) (harg14 : arg14.IsWhole) (arg15 : Memref sig .tc .vmem S1x4x160x128 .fp8e4m3) (harg15 : arg15.IsWhole) (arg16 : Memref sig .tc .vmem S1x1x4x128 .f32) (harg16 : arg16.IsWhole)
    (x0 : Vec F S2x8 .f32) (x1 : Vec F S2x8 .f32) (x2 : Vec F S1x8 .f32) (x3 : Vec F S1x4x160 .f32) (x4 : Vec F S1x4x160 .f32) (x5 : Vec F S1x4x160x128 .bf16) (x6 : Vec F S1x4x160x1024 .fp8e4m3) (x7 : Vec F S1x4x160x1024 .fp8e4m3) (x8 : Vec F S4x160x2048 .fp8e4m3) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_relpos_attn i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_relpos_attn_eq_skeleton]; unfold cc0_relpos_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-! ## The pipeline's proof data -/

/-- The windows this certificate FORGETS (8, 9, 10, 11, 12, 13): nothing reads what the kernel leaves in them, so nothing
    of it is named (Lib/Pipeline/Dat.lean `Dat.toRForget`). -/
def forgets0 : Fin 14 → Bool := fun w => w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- A point leaves this input's block as it was. -/
theorem after0_1 (c : Dev nD) (t : Fin cfg0.N) : (dats m 0 c).after 1 t = iblk m c 1 t := by dsimp only [dats]
/-- A point leaves this input's block as it was. -/
theorem after0_2 (c : Dev nD) (t : Fin cfg0.N) : (dats m 0 c).after 2 t = iblk m c 2 t := by dsimp only [dats]
/-- A point leaves this input's block as it was. -/
theorem after0_3 (c : Dev nD) (t : Fin cfg0.N) : (dats m 0 c).after 3 t = iblk m c 3 t := by dsimp only [dats]
/-- A point leaves this input's block as it was. -/
theorem after0_4 (c : Dev nD) (t : Fin cfg0.N) : (dats m 0 c).after 4 t = iblk m c 4 t := by dsimp only [dats]
/-- A point leaves this input's block as it was. -/
theorem after0_5 (c : Dev nD) (t : Fin cfg0.N) : (dats m 0 c).after 5 t = iblk m c 5 t := by dsimp only [dats]
/-- A point leaves this input's block as it was. -/
theorem after0_6 (c : Dev nD) (t : Fin cfg0.N) : (dats m 0 c).after 6 t = iblk m c 6 t := by dsimp only [dats]
/-- A point leaves this input's block as it was. -/
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- A point finds this input's block as it was brought in. -/
theorem before0_1 (c : Dev nD) (t : Fin cfg0.N) (d) : (dats m 0 c).before 1 t d = iblk m c 1 t :=
  before0_1_of m (dats m 0 c) (A_eq m c 1) (after0_1 m c) t d
/-- A point finds this input's block as it was brought in. -/
theorem before0_2 (c : Dev nD) (t : Fin cfg0.N) (d) : (dats m 0 c).before 2 t d = iblk m c 2 t :=
  before0_2_of m (dats m 0 c) (A_eq m c 2) (after0_2 m c) t d
/-- A point finds this input's block as it was brought in. -/
theorem before0_3 (c : Dev nD) (t : Fin cfg0.N) (d) : (dats m 0 c).before 3 t d = iblk m c 3 t :=
  before0_3_of m (dats m 0 c) (A_eq m c 3) (after0_3 m c) t d
/-- A point finds this input's block as it was brought in. -/
theorem before0_4 (c : Dev nD) (t : Fin cfg0.N) (d) : (dats m 0 c).before 4 t d = iblk m c 4 t :=
  before0_4_of m (dats m 0 c) (A_eq m c 4) (after0_4 m c) t d
/-- A point finds this input's block as it was brought in. -/
theorem before0_5 (c : Dev nD) (t : Fin cfg0.N) (d) : (dats m 0 c).before 5 t d = iblk m c 5 t :=
  before0_5_of m (dats m 0 c) (A_eq m c 5) (after0_5 m c) t d
/-- A point finds this input's block as it was brought in. -/
theorem before0_6 (c : Dev nD) (t : Fin cfg0.N) (d) : (dats m 0 c).before 6 t d = iblk m c 6 t :=
  before0_6_of m (dats m 0 c) (A_eq m c 6) (after0_6 m c) t d
/-- A point finds this input's block as it was brought in. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 1200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 10, 11, 12, 13) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Run

end
-- ==== Proof.Body.lean ====
/- One run of the idealized kernel's body on whole staging buffers, with what it leaves in each of the five outputs as the
   list of the rectangles it stores. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg3 : Memref sig .tc .smem S2x8 .f32) (harg3 : arg3.IsWhole) (arg4 : Memref sig .tc .smem S2x8 .f32) (harg4 : arg4.IsWhole) (arg5 : Memref sig .tc .smem S1x8 .f32) (harg5 : arg5.IsWhole) (arg6 : Memref sig .tc .vmem S1x4x160 .f32) (harg6 : arg6.IsWhole) (arg7 : Memref sig .tc .vmem S1x4x160 .f32) (harg7 : arg7.IsWhole) (arg8 : Memref sig .tc .vmem S1x4x160x128 .bf16) (harg8 : arg8.IsWhole) (arg9 : Memref sig .tc .vmem S1x4x160x1024 .fp8e4m3) (harg9 : arg9.IsWhole) (arg10 : Memref sig .tc .vmem S1x4x160x1024 .fp8e4m3) (harg10 : arg10.IsWhole) (arg11 : Memref sig .tc .vmem S4x160x2048 .fp8e4m3) (harg11 : arg11.IsWhole) (arg12 : Memref sig .tc .vmem S1x128x640 .bf16) (harg12 : arg12.IsWhole) (arg13 : Memref sig .tc .vmem S1x4x160x128 .fp8e4m3) (harg13 : arg13.IsWhole) (arg14 : Memref sig .tc .vmem S1x1x4x128 .f32) (harg14 : arg14.IsWhole) (arg15 : Memref sig .tc .vmem S1x4x160x128 .fp8e4m3) (harg15 : arg15.IsWhole) (arg16 : Memref sig .tc .vmem S1x1x4x128 .f32) (harg16 : arg16.IsWhole)
    (x0 : Vec F S2x8 .f32) (x1 : Vec F S2x8 .f32) (x2 : Vec F S1x8 .f32) (x3 : Vec F S1x4x160 .f32) (x4 : Vec F S1x4x160 .f32) (x5 : Vec F S1x4x160x128 .bf16) (x6 : Vec F S1x4x160x1024 .fp8e4m3) (x7 : Vec F S1x4x160x1024 .fp8e4m3) (x8 : Vec F S4x160x2048 .fp8e4m3) :
    Σ' (L9 : List (View.Piece (Elt F) S1x128x640 .bf16)), Σ' (L10 : List (View.Piece (Elt F) S1x4x160x128 .fp8e4m3)), Σ' (L11 : List (View.Piece (Elt F) S1x1x4x128 .f32)), Σ' (L12 : List (View.Piece (Elt F) S1x4x160x128 .fp8e4m3)), { L13 : List (View.Piece (Elt F) S1x1x4x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13)) -∗ K ⟨⟩))
          ⊢ wp frame (wpE (defs₀ (F := F)) Variants.none c none) E (cc0_relpos_attn i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_relpos_attn_eq_skeleton]; unfold cc0_relpos_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexists _; iexact H10
    isplitl [H11]; · iexists _; iexact H11
    isplitl [H12]; · iexists _; iexact H12
    iexists _; iexact H13

end Cert.KernelIdeal.Body

end
-- ==== Proof.Head.lean ====
/- What one attention head computes in the idealized kernel's body, as functions of the blocks it loads: the biased query, its
   quantised codes and scales, and the attention output. The body repeats these operations for each of its four heads. -/
module

public import proofs.«01_k».proof.Proof.Body

@[expose] public section

set_option maxRecDepth 16384

noncomputable section

namespace Cert.KernelIdeal.Head

open Cert.KernelIdeal Cert.KernelIdeal.Gen
open Idealize.ShloMosaic Idealize.ShloMosaic.TcCoe

variable {F : FTy → Type} [FloatOps F] [Named F]

/-- The query block with a bias row added to every query. -/
def biased (q : Vec F S1x1x160x128 .bf16) (b : Vec F S1x1x160 .f32) : FVec F S160x128 .f32 :=
  addf (extf .f32 (shapeCast S160x128 (q : FVec F S1x1x160x128 .bf16) shapeCasts_S1x1x160x128_S160x128) bitsLt_bf16_f32)
    (transpose S160x128 [1, 0] (broadcastTo S128x160 (shapeCast S1x160 (shapeCast S1x160 (b : FVec F S1x1x160 .f32) shapeCasts_S1x1x160_S1x160)
      shapeCasts_S1x160_S1x160) broadcasts_S1x160_S128x160) transposes_S128x160_p1_0_S160x128)

/-- The largest magnitude of each query, over 448. -/
def ratio (x : FVec F S160x128 .f32) : FVec F S1x128 .f32 :=
  mulf (shapeCast S1x128 (multiReduction .maximumf [0] S128 (absf x) 0xFF800000#32 reduces_S160x128_S128 (.inl rfl) rfl)
    shapeCasts_S128_S1x128) (broadcast S1x128 (Scalar.ofBits .f32 0x3B124925#32))

/-- One step of the search for the exponent field: raise the candidate by `k` unless that passes the value. -/
def estep (y : FVec F S1x128 .f32) (k : BitVec 32) (n : IVec S1x128 32) : IVec S1x128 32 :=
  select (cmpf .olt y (bitcastToFloat .f32 (shli (addi n (broadcast S1x128 k)) (broadcast S1x128 23#32)))) n
    (addi n (broadcast S1x128 k))

/-- The exponent field found by the eight steps of the search. -/
def efield (y : FVec F S1x128 .f32) : IVec S1x128 32 :=
  estep y 1#32 (estep y 2#32 (estep y 4#32 (estep y 8#32 (estep y 16#32 (estep y 32#32 (estep y 64#32
    (estep y 128#32 (broadcast S1x128 0#32))))))))

/-- The exponent of the scale: zero for a zero field, else the field less 126. -/
def expo (y : FVec F S1x128 .f32) : IVec S1x128 32 :=
  select (cmpi .eq (efield y) (broadcast S1x128 0#32)) (broadcast S1x128 0#32) (subi (efield y) (broadcast S1x128 126#32))

/-- The scale, two to the exponent. -/
def scale (y : FVec F S1x128 .f32) : FVec F S1x128 .f32 :=
  bitcastToFloat .f32 (shli (addi (expo y) (broadcast S1x128 127#32)) (broadcast S1x128 23#32))

/-- The codes: the values over the scale, clipped to the range of the code format. -/
def codes (x : FVec F S160x128 .f32) (y : FVec F S1x128 .f32) : FVec F S160x128 .fp8e4m3 :=
  truncf .fp8e4m3 (minimumf (broadcast S160x128 (Scalar.ofBits .f32 0x43E00000#32))
    (maximumf (broadcast S160x128 (Scalar.ofBits .f32 0xC3E00000#32))
      (mulf x (broadcastTo S160x128 (bitcastToFloat .f32 (shli (subi (broadcast S1x128 127#32) (expo y)) (broadcast S1x128 23#32)))
        broadcasts_S1x128_S160x128)))) bitsLt_fp8e4m3_f32

/-- A row of query scales times a scalar, laid out down the queries of a score block. -/
def column (s : FVec F S1x128 .f32) (w : Elt F .f32) : FVec F S128x128 .f32 :=
  transpose S128x128 [1, 0] (broadcastTo S128x128 (shapeCast S1x128 (mulf s (broadcast S1x128
    (Scalar.mulf w (Named.named κ "score_factor" 0x3DE995B3#32)))) shapeCasts_S1x128_S1x128) broadcasts_S1x128_S128x128)
    transposes_S128x128_p1_0_S128x128

/-- The position scores before their shift. -/
def wide (cv : FVec F S160x128 .fp8e4m3) (p : Vec F S1x160x1152 .fp8e4m3) : FVec F S128x1152 .f32 :=
  matmul dot_S160x128_S160x1152_S128x1152_0_0_1_1_n_n none cv
    (shapeCast S160x1152 (p : FVec F S1x160x1152 .fp8e4m3) shapeCasts_S1x160x1152_S160x1152) (constant S128x1152 .f32 0x00000000#32)

/-- The position scores, each query's row shifted by the query's own number. -/
def shifted (w : FVec F S128x1152 .f32) : FVec F S128x1024 .f32 :=
  extractStridedSlice S128x1024 ![0, 128] (extractStridedSlice S128x1152 ![0, 896] (dynamicRotate 1 1#32 (some (1, 0))
    (concatenate S128x2048 1 [⟨S128x896, extractStridedSlice S128x896 ![0, 256] w slices_S128x1152_o0_256_S128x896⟩, ⟨S128x1152, w⟩]
      concatenates_S128x896_S128x1152_S128x2048_d1) rotates_S128x2048_d1s1a0) slices_S128x2048_o0_896_S128x1152)
    slices_S128x1152_o0_128_S128x1024

/-- The content scores before their scale. -/
def content (cu : FVec F S160x128 .fp8e4m3) (k : Vec F S1x1x160x1024 .fp8e4m3) : FVec F S128x1024 .f32 :=
  matmul dot_S160x128_S160x1024_S128x1024_0_0_1_1_n_n none cu
    (shapeCast S160x1024 (k : FVec F S1x1x160x1024 .fp8e4m3) shapeCasts_S1x1x160x1024_S160x1024) (constant S128x1024 .f32 0x00000000#32)

/-- Eight copies of a column block side by side. -/
def eight (c : FVec F S128x128 .f32) : FVec F S128x1024 .f32 :=
  concatenate S128x1024 1 [⟨S128x128, c⟩, ⟨S128x128, c⟩, ⟨S128x128, c⟩, ⟨S128x128, c⟩, ⟨S128x128, c⟩, ⟨S128x128, c⟩, ⟨S128x128, c⟩, ⟨S128x128, c⟩]
    concatenates_S128x128_S128x128_S128x128_S128x128_S128x128_S128x128_S128x128_S128x128_S128x1024_d1

/-- The scaled scores. -/
def scores (ac bd : FVec F S128x1024 .f32) (cu cv : FVec F S128x128 .f32) : FVec F S128x1024 .f32 :=
  addf (mulf ac (eight cu)) (mulf bd (eight cv))

/-- Two to the power of each score less the largest of its row. -/
def powers (s : FVec F S128x1024 .f32) : FVec F S128x1024 .f32 :=
  exp2 (subf s (broadcastTo S128x1024 (shapeCast S128x1 (multiReduction .maximumf [1] S128 s 0xFF800000#32 reduces_S128x1024_S128 (.inl rfl) rfl)
    shapeCasts_S128_S128x1) broadcasts_S128x1_S128x1024))

/-- The attention output from the unnormalised weights: the weighted values times the value scale over the sum of the weights. -/
def mixed (e : FVec F S128x1024 .f32) (vt : Vec F S1x1x160x1024 .fp8e4m3) (w : Elt F .f32) : FVec F S128x160 .f32 :=
  mulf (matmul dot_S128x1024_S160x1024_S128x160_1_1_0_0_n_n none (truncf .bf16 e bitsLt_bf16_f32)
      (shapeCast S160x1024 (vt : FVec F S1x1x160x1024 .fp8e4m3) shapeCasts_S1x1x160x1024_S160x1024) (constant S128x160 .f32 0x00000000#32))
    (broadcastTo S128x160 (divf (broadcast S128x1 w) (shapeCast S128x1 (multiReduction .add [1] S128 e 0x00000000#32 reduces_S128x1024_S128
      (.inl rfl) rfl) shapeCasts_S128_S128x1)) broadcasts_S128x1_S128x160)

/-- A head's attention output from what it loads. -/
def attend (q : Vec F S1x1x160x128 .bf16) (u v : Vec F S1x1x160 .f32) (ks ps vs : Elt F .f32)
    (k : Vec F S1x1x160x1024 .fp8e4m3) (p : Vec F S1x160x1152 .fp8e4m3) (vt : Vec F S1x1x160x1024 .fp8e4m3) : FVec F S128x160 .f32 :=
  mixed (powers (scores (content (codes (biased q u) (ratio (biased q u))) k) (shifted (wide (codes (biased q v) (ratio (biased q v))) p))
    (column (scale (ratio (biased q u))) ks) (column (scale (ratio (biased q v))) ps))) vt vs

end Cert.KernelIdeal.Head
-- ==== Proof.Scalars.lean ====
/- The quantiser's scalar arithmetic over the extended reals: the search for the exponent field finds the binary exponent of its
   argument, so the scale it builds from the field is two to the rounded logarithm. -/
module

public import Idealize.ShloMosaic.PureOps.Ideal.Laws
public import Mathlib.Tactic.NormNum
public import Mathlib.Tactic.Positivity
public import Mathlib.Tactic.Ring
public import Mathlib.Analysis.SpecialFunctions.Pow.Real

@[expose] public section

set_option maxRecDepth 16384

noncomputable section

namespace Cert.Scalars

open Idealize.ShloMosaic

/-- One step of the search for the exponent field: raise the candidate by `k` unless that passes the value. -/
def step (y : EReal) (k n : BitVec 32) : BitVec 32 :=
  Scalar.select (Ideal.cmp .olt y (Ideal.ofBits .f32 (IntOp.shli .vector (IntOp.addi n k) 23#32))) n (IntOp.addi n k)

/-- The exponent field found by the eight steps of the search. -/
def field (y : EReal) : BitVec 32 :=
  step y 1#32 (step y 2#32 (step y 4#32 (step y 8#32 (step y 16#32 (step y 32#32 (step y 64#32 (step y 128#32 0#32)))))))

/-- The exponent of the scale: zero for a zero field, else the field less 126. -/
def expo (y : EReal) : BitVec 32 :=
  Scalar.select (IntOp.cmpi .eq (field y) 0#32) 0#32 (IntOp.subi (field y) 126#32)

/-- The scale, built from its exponent field. -/
def scale (y : EReal) : EReal := Ideal.ofBits .f32 (IntOp.shli .vector (IntOp.addi (expo y) 127#32) 23#32)

/-- The reciprocal of the scale, built from its exponent field. -/
def inverse (y : EReal) : EReal := Ideal.ofBits .f32 (IntOp.shli .vector (IntOp.subi 127#32 (expo y)) 23#32)

/-- The exponent as mathematics: zero below the smallest normal number, else the floor of the binary logarithm plus one. -/
def exponent (y : EReal) : EReal :=
  Scalar.select (Ideal.cmp .olt y (Ideal.ofBits .f32 0x00800000#32)) (Ideal.ofBits .f32 0x00000000#32)
    (Ideal.liftRound Int.floor (Ideal.div (Ideal.log y) ((Real.log 2 : ℝ) : EReal)) + Ideal.ofBits .f32 0x3F800000#32)

/-- A pattern with only an exponent field has sign bit zero. -/
theorem field_sign : ∀ n : Fin 256, (BitVec.ofNat 32 n.val <<< 23).extractLsb' 31 1 = 0#1 := by decide +kernel
/-- Its exponent field is the one put in. -/
theorem field_exponent : ∀ n : Fin 256, ((BitVec.ofNat 32 n.val <<< 23).extractLsb' 23 8).toNat = n.val := by decide +kernel
/-- Its fraction is zero. -/
theorem field_fraction : ∀ n : Fin 256, ((BitVec.ofNat 32 n.val <<< 23).extractLsb' 0 23).toNat = 0 := by decide +kernel

/-- A single-precision pattern is read by its three fields. -/
theorem ofBits_ieee (b : BitVec 32) : Ideal.ofBits .f32 b = Ideal.ieee 8 23 b := rfl

/-- A pattern with only a normal exponent field denotes the power of two of that exponent. -/
theorem ofBits_pow (n : Nat) (h1 : 1 ≤ n) (h2 : n ≤ 254) :
    Ideal.ofBits .f32 (BitVec.ofNat 32 n <<< 23) = (((2 : ℝ) ^ ((n : ℤ) - 127) : ℝ) : EReal) := by
  have hs := field_sign ⟨n, by omega⟩
  have he := field_exponent ⟨n, by omega⟩
  have hf := field_fraction ⟨n, by omega⟩
  dsimp only at hs he hf
  rw [ofBits_ieee]
  unfold Ideal.ieee
  dsimp only
  rw [he, hf, hs]
  rw [if_neg (by norm_num; omega), if_neg (by omega)]
  have h : ((n : ℤ) - (2 ^ (8 - 1) - 1) - ((23 : ℕ) : ℤ)) = ((n : ℤ) - 127) - 23 := by norm_num
  have h' : ((if (0#1 == 1#1) = true then (-1 : ℝ) else 1) * ((2 ^ 23 + 0 : ℕ) : ℝ) * (2 : ℝ) ^ ((n : ℤ) - (2 ^ (8 - 1) - 1) - ((23 : ℕ) : ℤ)))
      = (2 : ℝ) ^ ((n : ℤ) - 127) := by
    rw [h, zpow_sub₀ (by norm_num : (2 : ℝ) ≠ 0), if_neg (by decide)]
    norm_num
    ring
  exact congrArg Real.toEReal h'

/-- A pattern with a full exponent field and no fraction denotes infinity. -/
theorem ofBits_full : Ideal.ofBits .f32 (BitVec.ofNat 32 255 <<< 23) = ⊤ := by
  have hs := field_sign ⟨255, by omega⟩
  have he := field_exponent ⟨255, by omega⟩
  have hf := field_fraction ⟨255, by omega⟩
  dsimp only at hs he hf
  rw [ofBits_ieee]
  unfold Ideal.ieee
  dsimp only
  rw [he, hf, hs]
  norm_num

/-- The pattern of zero. -/
theorem ofBits_zero : Ideal.ofBits .f32 0x00000000#32 = 0 := by
  simp [Ideal.ofBits, Ideal.ieee]

/-- The pattern of one. -/
theorem ofBits_one : Ideal.ofBits .f32 0x3F800000#32 = 1 := by
  have h := ofBits_pow 127 (by norm_num) (by norm_num)
  have e : (BitVec.ofNat 32 127 <<< 23) = 0x3F800000#32 := by decide
  rw [e] at h
  rw [h]; norm_num

/-- The pattern of the least normal number. -/
theorem ofBits_least : Ideal.ofBits .f32 0x00800000#32 = (((2 : ℝ) ^ (-126 : ℤ) : ℝ) : EReal) := by
  have h := ofBits_pow 1 (by norm_num) (by norm_num)
  have e : (BitVec.ofNat 32 1 <<< 23) = 0x00800000#32 := by decide
  rw [e] at h
  rw [h]; norm_num

/-- The pattern of minus infinity. -/
theorem ofBits_bot : Ideal.ofBits .f32 0xFF800000#32 = ⊥ := by
  simp [Ideal.ofBits, Ideal.ieee]

/-- A positive number is below a power of two when the floor of its binary logarithm is below the exponent. -/
theorem lt_zpow_iff {y : ℝ} (hy : 0 < y) (z : ℤ) : y < (2 : ℝ) ^ z ↔ ⌊Real.log y / Real.log 2⌋ < z := by
  have h2 : 0 < Real.log 2 := Real.log_pos (by norm_num)
  rw [Int.floor_lt, div_lt_iff₀ h2, ← Real.log_zpow, Real.log_lt_log_iff hy (by positivity)]

/-- What the search looks for: the number of exponent fields the value reaches, and its tie to the binary logarithm. -/
theorem exists_field (y : ℝ) (h0 : 0 ≤ y) (h1 : y < (2 : ℝ) ^ (121 : ℤ)) :
    ∃ b : Nat, b ≤ 248 ∧ (∀ k : Nat, 1 ≤ k → k ≤ 255 → (((y : EReal) < Ideal.ofBits .f32 (BitVec.ofNat 32 k <<< 23)) ↔ b < k)) ∧
      ((b = 0 ∧ y < (2 : ℝ) ^ (-126 : ℤ)) ∨ (1 ≤ b ∧ (2 : ℝ) ^ (-126 : ℤ) ≤ y ∧ ⌊Real.log y / Real.log 2⌋ = (b : ℤ) - 127)) := by
  by_cases hs : y < (2 : ℝ) ^ (-126 : ℤ)
  · refine ⟨0, by omega, fun k hk hk' => ?_, .inl ⟨rfl, hs⟩⟩
    refine ⟨fun _ => by omega, fun _ => ?_⟩
    rcases Nat.lt_or_ge k 255 with hlt | hge
    · rw [ofBits_pow k hk (by omega), EReal.coe_lt_coe_iff]
      refine lt_of_lt_of_le hs (zpow_le_zpow_right₀ (by norm_num) (by omega))
    · obtain rfl : k = 255 := by omega
      rw [ofBits_full]; exact EReal.coe_lt_top y
  · have hs' : (2 : ℝ) ^ (-126 : ℤ) ≤ y := not_lt.mp hs
    have hy : 0 < y := lt_of_lt_of_le (by positivity) hs'
    have hlo : -126 ≤ ⌊Real.log y / Real.log 2⌋ := not_lt.mp fun h => hs ((lt_zpow_iff hy _).mpr h)
    have hhi : ⌊Real.log y / Real.log 2⌋ < 121 := (lt_zpow_iff hy _).mp h1
    refine ⟨(⌊Real.log y / Real.log 2⌋ + 127).toNat, by omega, fun k hk hk' => ?_, .inr ⟨by omega, hs', by omega⟩⟩
    rcases Nat.lt_or_ge k 255 with hlt | hge
    · rw [ofBits_pow k hk (by omega), EReal.coe_lt_coe_iff, lt_zpow_iff hy]
      omega
    · obtain rfl : k = 255 := by omega
      rw [ofBits_full]
      exact ⟨fun _ => by omega, fun _ => EReal.coe_lt_top y⟩

/-- The search over numbers: raise by `k` unless that passes `b`. -/
def climb (b k n : Nat) : Nat := if b < n + k then n else n + k

/-- One step adds at most its size. -/
theorem climb_le (b k n : Nat) : climb b k n ≤ n + k := by unfold climb; split <;> omega

/-- The eight steps reach every number below 256. -/
theorem climb_all : ∀ b : Fin 256, climb b.val 1 (climb b.val 2 (climb b.val 4 (climb b.val 8 (climb b.val 16 (climb b.val 32
    (climb b.val 64 (climb b.val 128 0))))))) = b.val := by decide +kernel

/-- A shift by 23 places is within the word, so it is the plain shift. -/
theorem shli_eq (x : BitVec 32) : IntOp.shli .vector x 23#32 = x <<< 23 := by
  unfold IntOp.shli; rw [if_pos (by decide)]; rfl

/-- One step of the search on words is one step on numbers. -/
theorem step_eq {y : EReal} {b : Nat}
    (h : ∀ k : Nat, 1 ≤ k → k ≤ 255 → ((y < Ideal.ofBits .f32 (BitVec.ofNat 32 k <<< 23)) ↔ b < k))
    (k n : Nat) (hk : 1 ≤ k) (hn : n + k ≤ 255) : step y (BitVec.ofNat 32 k) (BitVec.ofNat 32 n) = BitVec.ofNat 32 (climb b k n) := by
  have ha : IntOp.addi (BitVec.ofNat 32 n) (BitVec.ofNat 32 k) = BitVec.ofNat 32 (n + k) := by
    unfold IntOp.addi; exact (BitVec.ofNat_add n k).symm
  unfold step climb Scalar.select Ideal.cmp
  rw [ha, shli_eq]
  have hh := h (n + k) (by omega) hn
  by_cases hb : b < n + k
  · simp [hh.mpr hb, hb]
  · have : ¬ y < Ideal.ofBits .f32 (BitVec.ofNat 32 (n + k) <<< 23) := fun c => hb (hh.mp c)
    simp [this, hb]

/-- The search finds the number of exponent fields the value reaches. -/
theorem field_eq {y : EReal} {b : Nat} (hb : b ≤ 255)
    (h : ∀ k : Nat, 1 ≤ k → k ≤ 255 → ((y < Ideal.ofBits .f32 (BitVec.ofNat 32 k <<< 23)) ↔ b < k)) :
    field y = BitVec.ofNat 32 b := by
  have l1 := climb_le b 128 0
  have l2 := climb_le b 64 (climb b 128 0)
  have l3 := climb_le b 32 (climb b 64 (climb b 128 0))
  have l4 := climb_le b 16 (climb b 32 (climb b 64 (climb b 128 0)))
  have l5 := climb_le b 8 (climb b 16 (climb b 32 (climb b 64 (climb b 128 0))))
  have l6 := climb_le b 4 (climb b 8 (climb b 16 (climb b 32 (climb b 64 (climb b 128 0)))))
  have l7 := climb_le b 2 (climb b 4 (climb b 8 (climb b 16 (climb b 32 (climb b 64 (climb b 128 0))))))
  unfold field
  rw [step_eq h 128 0 (by omega) (by omega), step_eq h 64 _ (by omega) (by omega), step_eq h 32 _ (by omega) (by omega),
    step_eq h 16 _ (by omega) (by omega), step_eq h 8 _ (by omega) (by omega), step_eq h 4 _ (by omega) (by omega),
    step_eq h 2 _ (by omega) (by omega), step_eq h 1 _ (by omega) (by omega)]
  exact congrArg _ (climb_all ⟨b, by omega⟩)

/-- The exponent as an integer, for the value's count `b` of exponent fields. -/
def power (b : Nat) : ℤ := if b = 0 then 0 else (b : ℤ) - 126

/-- The biased exponent of the scale, on words. -/
theorem up_eq : ∀ b : Fin 249, IntOp.addi (Scalar.select (IntOp.cmpi .eq (BitVec.ofNat 32 b.val) 0#32) 0#32
    (IntOp.subi (BitVec.ofNat 32 b.val) 126#32)) 127#32 = BitVec.ofNat 32 (power b.val + 127).toNat := by decide +kernel

/-- The biased exponent of the inverse scale, on words. -/
theorem down_eq : ∀ b : Fin 249, IntOp.subi 127#32 (Scalar.select (IntOp.cmpi .eq (BitVec.ofNat 32 b.val) 0#32) 0#32
    (IntOp.subi (BitVec.ofNat 32 b.val) 126#32)) = BitVec.ofNat 32 (127 - power b.val).toNat := by decide +kernel

/-- Two to an integer power. -/
theorem exp2_int (n : ℤ) : Ideal.exp2 ((n : ℝ) : EReal) = (((2 : ℝ) ^ n : ℝ) : EReal) := by
  show ((Real.rpow 2 (n : ℝ) : ℝ) : EReal) = _
  congr 1
  exact Real.rpow_intCast 2 n

/-- The exponent of a number whose exponent field is known. -/
theorem exponent_eq {y : ℝ} {b : Nat} (h : (b = 0 ∧ y < (2 : ℝ) ^ (-126 : ℤ)) ∨
    (1 ≤ b ∧ (2 : ℝ) ^ (-126 : ℤ) ≤ y ∧ ⌊Real.log y / Real.log 2⌋ = (b : ℤ) - 127)) :
    exponent (y : EReal) = (((power b : ℤ) : ℝ) : EReal) := by
  unfold exponent Scalar.select Ideal.cmp power
  rw [ofBits_least, ofBits_zero, ofBits_one]
  rcases h with ⟨rfl, h⟩ | ⟨h1, h2, h3⟩
  · have hy : (y : EReal) < (((2 : ℝ) ^ (-126 : ℤ) : ℝ) : EReal) := EReal.coe_lt_coe_iff.mpr h
    dsimp only
    rw [decide_eq_true hy]
    simp
  · have hy : ¬ (y : EReal) < (((2 : ℝ) ^ (-126 : ℤ) : ℝ) : EReal) := fun c => absurd (EReal.coe_lt_coe_iff.mp c) (not_lt.mpr h2)
    have hp : 0 < y := lt_of_lt_of_le (by positivity) h2
    have hl : Ideal.log (y : EReal) = ((Real.log y : ℝ) : EReal) := by
      show (if y ≤ 0 then (⊥ : EReal) else _) = _
      rw [if_neg (not_le.mpr hp)]
    have h2' : Real.log 2 ≠ 0 := ne_of_gt (Real.log_pos (by norm_num))
    have hd : Ideal.div ((Real.log y : ℝ) : EReal) ((Real.log 2 : ℝ) : EReal) = ((Real.log y / Real.log 2 : ℝ) : EReal) := by
      unfold Ideal.div
      rw [if_neg (by exact_mod_cast h2'), ← EReal.coe_inv, ← EReal.coe_mul]; rfl
    dsimp only
    rw [decide_eq_false hy, hl, hd]
    show ((((⌊Real.log y / Real.log 2⌋ : ℤ) : ℝ) : EReal) + 1) = ((((if b = 0 then 0 else (b : ℤ) - 126) : ℤ) : ℝ) : EReal)
    rw [if_neg (show b ≠ 0 by omega), h3, ← EReal.coe_one, ← EReal.coe_add]
    refine congrArg Real.toEReal ?_
    push_cast; ring

/-- On the numbers a query row can give, the built scale is two to the exponent. -/
theorem scale_eq {y : ℝ} (h0 : 0 ≤ y) (h1 : y < (2 : ℝ) ^ (121 : ℤ)) : scale (y : EReal) = Ideal.exp2 (exponent (y : EReal)) := by
  obtain ⟨b, hb, hk, he⟩ := exists_field y h0 h1
  unfold scale expo
  rw [field_eq (by omega) hk, up_eq ⟨b, by omega⟩, shli_eq, exponent_eq he, exp2_int]
  have : 1 ≤ (power b + 127).toNat ∧ (power b + 127).toNat ≤ 254 ∧ ((power b + 127).toNat : ℤ) - 127 = power b := by
    unfold power; split <;> omega
  rw [ofBits_pow _ this.1 this.2.1, this.2.2]

/-- On the numbers a query row can give, the built reciprocal is two to the exponent's negative. -/
theorem inverse_eq {y : ℝ} (h0 : 0 ≤ y) (h1 : y < (2 : ℝ) ^ (121 : ℤ)) :
    inverse (y : EReal) = Ideal.exp2 (Ideal.ofBits .f32 0x00000000#32 - exponent (y : EReal)) := by
  obtain ⟨b, hb, hk, he⟩ := exists_field y h0 h1
  unfold inverse expo
  rw [field_eq (by omega) hk, down_eq ⟨b, by omega⟩, shli_eq, exponent_eq he, ofBits_zero, zero_sub, ← EReal.coe_neg, ← Int.cast_neg, exp2_int]
  have : 1 ≤ (127 - power b).toNat ∧ (127 - power b).toNat ≤ 254 ∧ ((127 - power b).toNat : ℤ) - 127 = -power b := by
    unfold power; split <;> omega
  rw [ofBits_pow _ this.1 this.2.1, this.2.2]

end Cert.Scalars
-- ==== Proof.Softmax.lean ====
/- The attention row over the extended reals: the kernel's weights, powers of two of scores that carry a factor, are the
   exponentials of the scores, and dividing by their sum before or after the values are mixed gives the same row. -/
module

public import Idealize.ShloMosaic.PureOps.Ideal.Laws
public import Mathlib.Tactic.NormNum
public import Mathlib.Tactic.Positivity
public import Mathlib.Tactic.Ring
public import Mathlib.Analysis.SpecialFunctions.Pow.Real

@[expose] public section

set_option maxRecDepth 16384

noncomputable section

namespace Cert.Softmax

open Idealize.ShloMosaic

/-- A positive real factor distributes over a sum of extended reals. -/
theorem add_mul_pos (x y : EReal) {c : ℝ} (hc : 0 < c) : (x + y) * (c : EReal) = x * (c : EReal) + y * (c : EReal) := by
  induction x <;> induction y <;>
    simp only [EReal.bot_mul_coe_of_pos hc, EReal.top_mul_coe_of_pos hc, EReal.bot_add, EReal.add_bot, EReal.top_add_top,
      EReal.top_add_coe, EReal.coe_add_top, ← EReal.coe_mul, ← EReal.coe_add]
  rw [add_mul]

/-- A positive real factor distributes over a difference of extended reals. -/
theorem mul_sub_pos (x y : EReal) {c : ℝ} (hc : 0 < c) : (c : EReal) * x - (c : EReal) * y = (c : EReal) * (x - y) := by
  have h : (c : EReal) * (x + -y) = (c : EReal) * x + (c : EReal) * (-y) := by
    rw [mul_comm, add_mul_pos _ _ hc, mul_comm x, mul_comm (-y)]
  rw [sub_eq_add_neg, sub_eq_add_neg, h, mul_neg]

/-- A positive real factor distributes over a finite sum of extended reals. -/
theorem sum_mul_pos {ι : Type} (s : Finset ι) (f : ι → EReal) {c : ℝ} (hc : 0 < c) :
    (∑ j ∈ s, f j) * (c : EReal) = ∑ j ∈ s, f j * (c : EReal) := by
  classical
  induction s using Finset.induction_on with
  | empty => simp
  | insert a s ha ih => rw [Finset.sum_insert ha, Finset.sum_insert ha, add_mul_pos _ _ hc, ih]

/-- Two to the power of a number over the logarithm of two is its exponential. -/
theorem exp2_eq (x : EReal) : Ideal.exp2 (((Real.log 2)⁻¹ : ℝ) * x) = Ideal.exp x := by
  have h2 : 0 < Real.log 2 := Real.log_pos (by norm_num)
  have hc : 0 < (Real.log 2)⁻¹ := inv_pos.mpr h2
  induction x with
  | bot => rw [EReal.coe_mul_bot_of_pos hc]; rfl
  | top => rw [EReal.coe_mul_top_of_pos hc]; rfl
  | coe r =>
    rw [← EReal.coe_mul]
    show ((Real.rpow 2 ((Real.log 2)⁻¹ * r) : ℝ) : EReal) = ((Real.exp r : ℝ) : EReal)
    congr 1
    show (2 : ℝ) ^ ((Real.log 2)⁻¹ * r) = _
    rw [Real.rpow_def_of_pos (by norm_num), ← mul_assoc, mul_inv_cancel₀ (ne_of_gt h2), one_mul]

/-- The largest of finitely many extended reals. -/
def most {n : Nat} (s : Fin n → EReal) : EReal := Finset.univ.fold max ⊥ s

/-- The largest score is the supremum. -/
theorem most_eq_sup {n : Nat} (s : Fin n → EReal) : most s = Finset.univ.sup s := rfl

/-- No score is above the largest. -/
theorem le_most {n : Nat} (s : Fin n → EReal) (j : Fin n) : s j ≤ most s := Finset.le_sup (f := s) (Finset.mem_univ j)

/-- A positive factor passes out of the largest. -/
theorem most_mul {n : Nat} (s : Fin n → EReal) {c : ℝ} (hc : 0 < c) : most (fun j => (c : EReal) * s j) = (c : EReal) * most s := by
  rw [most_eq_sup, most_eq_sup]
  have hm : Monotone fun x : EReal => (c : EReal) * x := fun a b h => mul_le_mul_of_nonneg_left h (by exact_mod_cast hc.le)
  exact (Finset.comp_sup_eq_sup_comp (fun x : EReal => (c : EReal) * x) (fun a b => hm.map_sup a b)
    (EReal.coe_mul_bot_of_pos hc)).symm

/-- The unnormalised weights of a row of scores. -/
def weight {n : Nat} (s : Fin n → EReal) (j : Fin n) : EReal := Ideal.exp (s j - most s)

/-- With scores scaled by the reciprocal of the logarithm of two, the power of two of a score minus the largest is the weight. -/
theorem weight_eq {n : Nat} (s : Fin n → EReal) (j : Fin n) :
    Ideal.exp2 (((Real.log 2)⁻¹ : ℝ) * s j - most (fun j => (((Real.log 2)⁻¹ : ℝ) : EReal) * s j)) = weight s j := by
  have hc : 0 < (Real.log 2)⁻¹ := inv_pos.mpr (Real.log_pos (by norm_num))
  rw [most_mul s hc, mul_sub_pos _ _ hc, exp2_eq]; rfl

/-- Every weight is a real number at least zero. -/
theorem weight_real {n : Nat} (s : Fin n → EReal) : ∃ r : Fin n → ℝ, (∀ j, 0 ≤ r j) ∧ ∀ j, weight s j = (r j : EReal) := by
  have h : ∀ j, ∃ r : ℝ, 0 ≤ r ∧ weight s j = (r : EReal) := by
    intro j
    have hle := le_most s j
    unfold weight
    generalize most s = m at *
    generalize s j = x at *
    induction m with
    | bot => obtain rfl : x = ⊥ := le_bot_iff.mp hle; exact ⟨0, le_refl _, by rw [EReal.bot_sub]; rfl⟩
    | top => exact ⟨0, le_refl _, by rw [EReal.sub_top]; rfl⟩
    | coe m =>
      induction x with
      | bot => exact ⟨0, le_refl _, by rw [EReal.bot_sub]; rfl⟩
      | top => exact absurd hle (by simp)
      | coe x => exact ⟨Real.exp (x - m), (Real.exp_pos _).le, by rw [← EReal.coe_sub]; rfl⟩
  choose r hr using h
  exact ⟨r, fun j => (hr j).1, fun j => (hr j).2⟩

/-- A sum of reals is a real. -/
theorem coe_sum {n : Nat} (r : Fin n → ℝ) : ∑ j, ((r j : ℝ) : EReal) = ((∑ j, r j : ℝ) : EReal) := by
  have : ∀ s : Finset (Fin n), ∑ j ∈ s, ((r j : ℝ) : EReal) = ((∑ j ∈ s, r j : ℝ) : EReal) := by
    intro s
    induction s using Finset.induction_on with
    | empty => simp
    | insert a s ha ih => rw [Finset.sum_insert ha, Finset.sum_insert ha, ih, ← EReal.coe_add]
  exact this _

/-- Dividing the mixed values by the sum of the weights, or each weight before the values are mixed, gives the same number. -/
theorem mix_eq {n : Nat} (s v : Fin n → EReal) (w : EReal) :
    (∑ j, weight s j * v j) * Ideal.div w (∑ j, weight s j) = (∑ j, weight s j * Ideal.div 1 (∑ j, weight s j) * v j) * w := by
  obtain ⟨r, hr, he⟩ := weight_real s
  simp only [he]
  rw [coe_sum]
  have hn : 0 ≤ ∑ j, r j := Finset.sum_nonneg fun j _ => hr j
  rcases hn.eq_or_lt with h0 | hp
  · have hz : ∀ j, r j = 0 := fun j => (Finset.sum_eq_zero_iff_of_nonneg (fun j _ => hr j)).mp h0.symm j (Finset.mem_univ j)
    simp [hz]
  · have hi : 0 < (∑ j, r j)⁻¹ := inv_pos.mpr hp
    have hd : ∀ x : EReal, Ideal.div x ((∑ j, r j : ℝ) : EReal) = x * (((∑ j, r j)⁻¹ : ℝ) : EReal) := by
      intro x; unfold Ideal.div
      rw [if_neg (by exact_mod_cast hp.ne'), EReal.coe_inv]
    rw [hd, hd, one_mul, mul_comm w, ← mul_assoc, sum_mul_pos _ _ hi]
    congr 1
    exact Finset.sum_congr rfl fun j _ => by rw [mul_assoc, mul_comm (v j), ← mul_assoc]

/-- The kernel's score, whose scales carry the factor, is the reference's score over the logarithm of two. -/
theorem score_eq (a b qu qv ks ps : EReal) :
    a * (qu * (ks * (((Real.log 2)⁻¹ * (Real.sqrt 160)⁻¹ : ℝ) : EReal))) + b * (qv * (ps * (((Real.log 2)⁻¹ * (Real.sqrt 160)⁻¹ : ℝ) : EReal)))
      = (((Real.log 2)⁻¹ : ℝ) : EReal) * ((a * qu * ks + b * qv * ps) * (((Real.sqrt 160)⁻¹ : ℝ) : EReal)) := by
  have hl : 0 < (Real.log 2)⁻¹ := inv_pos.mpr (Real.log_pos (by norm_num))
  have hs : 0 < (Real.sqrt 160)⁻¹ := inv_pos.mpr (Real.sqrt_pos.mpr (by norm_num))
  have hc := mul_pos hl hs
  rw [mul_comm (((Real.log 2)⁻¹ : ℝ) : EReal), mul_assoc (_ + _), ← EReal.coe_mul, mul_comm (Real.sqrt 160)⁻¹, add_mul_pos _ _ hc]
  congr 1 <;> simp only [mul_assoc]

end Cert.Softmax
-- ==== Proof.Row.lean ====
/- One query's row of the computation over the extended reals: its quantised codes, its scale and its attention output, with the
   scales built from the exponent field as the kernel builds them, and as mathematics. On finite queries the two agree. -/
module

public import proofs.«01_k».proof.Proof.Scalars
public import proofs.«01_k».proof.Proof.Softmax

@[expose] public section

set_option maxRecDepth 16384

noncomputable section

namespace Cert.Row

open Idealize.ShloMosaic Cert.Softmax

/-- The largest magnitude of a row, over 448. -/
def ratio (x : Fin 160 → EReal) : EReal := most (fun d => max (x d) (-x d)) * Ideal.ofBits .f32 0x3B124925#32

/-- Clipping to the range of the code format. -/
def clip (z : EReal) : EReal := min (Ideal.ofBits .f32 0x43E00000#32) (max (Ideal.ofBits .f32 0xC3E00000#32) z)

/-- A row's codes with the reciprocal built from its exponent field. -/
def codeBuilt (x : Fin 160 → EReal) (d : Fin 160) : EReal := clip (x d * Scalars.inverse (ratio x))

/-- A row's scale built from its exponent field. -/
def scaleBuilt (x : Fin 160 → EReal) : EReal := Scalars.scale (ratio x)

/-- A row's codes. -/
def code (x : Fin 160 → EReal) (d : Fin 160) : EReal :=
  clip (x d * Ideal.exp2 (Ideal.ofBits .f32 0x00000000#32 - Scalars.exponent (ratio x)))

/-- A row's scale. -/
def scale (x : Fin 160 → EReal) : EReal := Ideal.exp2 (Scalars.exponent (ratio x))

/-- A row's scores as the kernel computes them: each product of codes times its scales and the factor. -/
def scoreBuilt (xu xv : Fin 160 → EReal) (ks ps : EReal) (K P : Fin 160 → Fin 1024 → EReal) (j : Fin 1024) : EReal :=
  (∑ e, codeBuilt xu e * K e j) * (scaleBuilt xu * (ks * (((Real.log 2)⁻¹ * (Real.sqrt 160)⁻¹ : ℝ) : EReal)))
    + (∑ e, codeBuilt xv e * P e j) * (scaleBuilt xv * (ps * (((Real.log 2)⁻¹ * (Real.sqrt 160)⁻¹ : ℝ) : EReal)))

/-- A row's attention output as the kernel computes it. -/
def attendBuilt (xu xv : Fin 160 → EReal) (ks ps vs : EReal) (K P : Fin 160 → Fin 1024 → EReal) (V : Fin 1024 → EReal) : EReal :=
  (∑ j, Ideal.exp2 (scoreBuilt xu xv ks ps K P j - most (scoreBuilt xu xv ks ps K P)) * V j)
    * Ideal.div vs (∑ j, Ideal.exp2 (scoreBuilt xu xv ks ps K P j - most (scoreBuilt xu xv ks ps K P)))

/-- A row's scores. -/
def score (xu xv : Fin 160 → EReal) (ks ps : EReal) (K P : Fin 160 → Fin 1024 → EReal) (j : Fin 1024) : EReal :=
  ((∑ e, code xu e * K e j) * scale xu * ks + (∑ e, code xv e * P e j) * scale xv * ps) * (((Real.sqrt 160)⁻¹ : ℝ) : EReal)

/-- A row's attention output. -/
def attend (xu xv : Fin 160 → EReal) (ks ps vs : EReal) (K P : Fin 160 → Fin 1024 → EReal) (V : Fin 1024 → EReal) : EReal :=
  (∑ j, weight (score xu xv ks ps K P) j * Ideal.div 1 (∑ j, weight (score xu xv ks ps K P) j) * V j) * vs

/-- A row of real numbers of magnitude at most the double of the largest single-precision number's bound. -/
def Finite (x : Fin 160 → EReal) : Prop := ∀ d, ∃ r : ℝ, x d = (r : EReal) ∧ |r| ≤ (2 : ℝ) ^ (129 : ℤ)

/-- The constant that stands for 1/448 (its single-precision rounding) is a positive real below two to the power -8. -/
theorem ofBits_share : ∃ c : ℝ, Ideal.ofBits .f32 0x3B124925#32 = (c : EReal) ∧ 0 < c ∧ c < (2 : ℝ) ^ (-8 : ℤ) := by
  refine ⟨(9586981 : ℝ) * (2 : ℝ) ^ (-32 : ℤ), ?_, by positivity, by norm_num⟩
  rw [Scalars.ofBits_ieee]
  simp [Ideal.ieee, -EReal.coe_mul]

/-- The largest of numbers between 0 and a bound is such a number. -/
theorem most_real (f : Fin 160 → EReal) (B : ℝ) (h : ∀ d, ∃ r : ℝ, f d = (r : EReal) ∧ 0 ≤ r ∧ r ≤ B) :
    ∃ r : ℝ, most f = (r : EReal) ∧ 0 ≤ r ∧ r ≤ B := by
  have hne : (Finset.univ : Finset (Fin 160)).Nonempty := ⟨0, Finset.mem_univ _⟩
  obtain ⟨d, -, hd⟩ := Finset.exists_mem_eq_sup Finset.univ hne f
  obtain ⟨r, hr, h0, h1⟩ := h d
  exact ⟨r, by rw [most_eq_sup, hd, hr], h0, h1⟩

/-- The ratio of a bounded row is a real number below the 121st power of two. -/
theorem ratio_real {x : Fin 160 → EReal} (h : Finite x) : ∃ y : ℝ, ratio x = (y : EReal) ∧ 0 ≤ y ∧ y < (2 : ℝ) ^ (121 : ℤ) := by
  obtain ⟨c, hc, hc0, hc1⟩ := ofBits_share
  obtain ⟨m, hm, hm0, hm1⟩ := most_real (fun d => max (x d) (-x d)) ((2 : ℝ) ^ (129 : ℤ)) fun d => by
    obtain ⟨r, hr, hb⟩ := h d
    refine ⟨|r|, ?_, abs_nonneg r, hb⟩
    show max (x d) (-x d) = _
    rw [hr, ← EReal.coe_neg]
    exact (EReal.coe_strictMono.monotone.map_max (a := r) (b := -r)).symm
  refine ⟨m * c, by unfold ratio; rw [hm, hc, EReal.coe_mul], mul_nonneg hm0 hc0.le, ?_⟩
  calc m * c ≤ (2 : ℝ) ^ (129 : ℤ) * c := mul_le_mul_of_nonneg_right hm1 hc0.le
    _ < (2 : ℝ) ^ (129 : ℤ) * (2 : ℝ) ^ (-8 : ℤ) := mul_lt_mul_of_pos_left hc1 (by positivity)
    _ = (2 : ℝ) ^ (121 : ℤ) := by norm_num

/-- On a finite row the built scale is the scale. -/
theorem scaleBuilt_eq {x : Fin 160 → EReal} (h : Finite x) : scaleBuilt x = scale x := by
  obtain ⟨y, hy, h0, h1⟩ := ratio_real h
  unfold scaleBuilt scale
  rw [hy]; exact Scalars.scale_eq h0 h1

/-- On a finite row the codes by the built reciprocal are the codes. -/
theorem codeBuilt_eq {x : Fin 160 → EReal} (h : Finite x) : codeBuilt x = code x := by
  obtain ⟨y, hy, h0, h1⟩ := ratio_real h
  funext d
  unfold codeBuilt code
  rw [hy, Scalars.inverse_eq h0 h1]

/-- On finite queries the kernel's attention output is the attention output. -/
theorem attendBuilt_eq {xu xv : Fin 160 → EReal} (hu : Finite xu) (hv : Finite xv) (ks ps vs : EReal)
    (K P : Fin 160 → Fin 1024 → EReal) (V : Fin 1024 → EReal) :
    attendBuilt xu xv ks ps vs K P V = attend xu xv ks ps vs K P V := by
  have hs : scoreBuilt xu xv ks ps K P = fun j => (((Real.log 2)⁻¹ : ℝ) : EReal) * score xu xv ks ps K P j := by
    funext j
    unfold scoreBuilt score
    rw [codeBuilt_eq hu, codeBuilt_eq hv, scaleBuilt_eq hu, scaleBuilt_eq hv, score_eq]
  unfold attendBuilt attend
  rw [hs]
  simp only [weight_eq]
  exact mix_eq _ _ _

end Cert.Row
-- ==== Proof.HeadIdeal.lean ====
/- One head's quantities of the idealized kernel at the extended reals, read at an index. -/
module

public import proofs.«01_k».proof.Proof.Head
public import proofs.«01_k».proof.Proof.Row
public import Idealize.ShloMosaic.Lib.Pointwise
public import Idealize.ShloMosaic.PureOps.Ideal.Laws

@[expose] public section

set_option maxRecDepth 16384

noncomputable section

namespace Cert.KernelIdeal.Head

open Cert.KernelIdeal Cert.KernelIdeal.Gen
open Idealize.ShloMosaic Idealize.ShloMosaic.TcCoe Idealize.ShloMosaic.Pointwise

/-- A biased query's entry. -/
theorem biased_apply (q : Vec Ideal S1x1x160x128 .bf16) (b : Vec Ideal S1x1x160 .f32) (d : Fin 160) (r : Fin 128) :
    biased (F := Ideal) q b (ix2 d r) = q (ix4 0 0 d r) + b (ix3 0 0 d) := by
  pointwise [biased]

/-- A query's ratio: its largest magnitude over the largest code. -/
theorem ratio_apply (x : FVec Ideal S160x128 .f32) (r : Fin 128) :
    ratio (F := Ideal) x (ix2 0 r) = Softmax.most (fun d : Fin 160 => max (x (ix2 d r)) (-x (ix2 d r))) * Ideal.ofBits .f32 0x3B124925#32 := by
  pointwise [ratio]
  rw [Scalars.ofBits_bot]
  rfl

/-- One step of the search for the exponent, at an entry. -/
theorem estep_apply (y : FVec Ideal S1x128 .f32) (k : BitVec 32) (n : IVec S1x128 32) (j : S1x128.Idx) :
    estep (F := Ideal) y k n j = Scalars.step (y j) k (n j) := rfl

/-- The exponent field, at an entry. -/
theorem efield_apply (y : FVec Ideal S1x128 .f32) (j : S1x128.Idx) : efield (F := Ideal) y j = Scalars.field (y j) := by
  unfold efield Scalars.field
  iterate 8 rw [estep_apply]
  rfl

/-- The exponent, at an entry. -/
theorem expo_apply (y : FVec Ideal S1x128 .f32) (j : S1x128.Idx) : expo (F := Ideal) y j = Scalars.expo (y j) := by
  unfold expo Scalars.expo
  rw [← efield_apply]
  generalize efield (F := Ideal) y = e
  rfl

/-- The scale, at an entry. -/
theorem scale_apply (y : FVec Ideal S1x128 .f32) (j : S1x128.Idx) : scale (F := Ideal) y j = Scalars.scale (y j) := by
  unfold scale Scalars.scale
  rw [← expo_apply]
  generalize expo (F := Ideal) y = e
  rfl

/-- The code, at an entry. -/
theorem codes_apply (x : FVec Ideal S160x128 .f32) (y : FVec Ideal S1x128 .f32) (d : Fin 160) (r : Fin 128) :
    codes (F := Ideal) x y (ix2 d r) = min (Ideal.ofBits .f32 0x43E00000#32) (max (Ideal.ofBits .f32 0xC3E00000#32)
      (x (ix2 d r) * Scalars.inverse (y (ix2 0 r)))) := by
  unfold Scalars.inverse
  rw [← expo_apply]
  unfold codes
  generalize expo (F := Ideal) y = e
  pointwise

/-- A row of scales turned into a column, repeated, and multiplied by a factor and the constants of the score. -/
theorem column_apply (s : FVec Ideal S1x128 .f32) (w : EReal) (r : Fin 128) (l : Fin 128) :
    column (F := Ideal) s w (ix2 r l) = s (ix2 0 r) * (w * (((Real.log 2)⁻¹ * (Real.sqrt 160)⁻¹ : ℝ) : EReal)) := by
  pointwise [column]
  rfl

/-- A block of 128 columns repeated eight times. -/
theorem eight_apply (c : FVec Ideal S128x128 .f32) (r : Fin 128) (j : Fin 1024) :
    eight (F := Ideal) c (ix2 r j) = c (ix2 r ⟨j.val % 128, Nat.mod_lt _ (by decide)⟩) := by
  pointwise [eight]
  repeat' split
  all_goals exact congrArg (fun k => c (ix2 r k)) (Fin.ext (by dsimp only; omega))

/-- The product of codes with a key's codes. -/
theorem content_apply (cu : FVec Ideal S160x128 .fp8e4m3) (k : Vec Ideal S1x1x160x1024 .fp8e4m3) (r : Fin 128) (j : Fin 1024) :
    content (F := Ideal) cu k (ix2 r j) = ∑ d : Fin 160, cu (ix2 d r) * k (ix4 0 0 d j) := by
  pointwise [content]

/-- The product of codes with a position's codes. -/
theorem wide_apply (cv : FVec Ideal S160x128 .fp8e4m3) (p : Vec Ideal S1x160x1152 .fp8e4m3) (r : Fin 128) (j : Fin 1152) :
    wide (F := Ideal) cv p (ix2 r j) = ∑ d : Fin 160, cv (ix2 d r) * p (ix3 0 d j) := by
  pointwise [wide]

/-- The products with the positions, shifted so that a column is a key. -/
theorem shifted_apply (w : FVec Ideal S128x1152 .f32) (r : Fin 128) (j : Fin 1024) :
    shifted (F := Ideal) w (ix2 r j) = w (ix2 r ⟨127 + j.val - r.val, by omega⟩) := by
  pointwise [shifted]
  rw [dif_neg (by omega)]
  exact congrArg (fun k => w (ix2 r k)) (Fin.ext (by dsimp only; omega))

/-- The powers of two of the scores minus the row's largest. -/
theorem powers_apply (s : FVec Ideal S128x1024 .f32) (r : Fin 128) (j : Fin 1024) :
    powers (F := Ideal) s (ix2 r j) = Ideal.exp2 (s (ix2 r j) - Softmax.most (fun j => s (ix2 r j))) := by
  pointwise [powers]
  rw [Scalars.ofBits_bot]
  rfl

/-- The weighted sum of the values' codes, scaled. -/
theorem mixed_apply (e : FVec Ideal S128x1024 .f32) (vt : Vec Ideal S1x1x160x1024 .fp8e4m3) (w : EReal) (r : Fin 128) (d : Fin 160) :
    mixed (F := Ideal) e vt w (ix2 r d) = (∑ j : Fin 1024, e (ix2 r j) * vt (ix4 0 0 d j)) * Ideal.div w (∑ j : Fin 1024, e (ix2 r j)) := by
  pointwise [mixed]

/-- The score of a query and a key. -/
theorem scores_apply (ac bd : FVec Ideal S128x1024 .f32) (cu cv : FVec Ideal S128x128 .f32) (r : Fin 128) (j : Fin 1024) :
    scores (F := Ideal) ac bd cu cv (ix2 r j) = ac (ix2 r j) * cu (ix2 r ⟨j.val % 128, Nat.mod_lt _ (by decide)⟩)
      + bd (ix2 r j) * cv (ix2 r ⟨j.val % 128, Nat.mod_lt _ (by decide)⟩) := by
  show ac (ix2 r j) * eight cu (ix2 r j) + bd (ix2 r j) * eight cv (ix2 r j) = _
  rw [eight_apply, eight_apply]

/-- The query of row `r` of a block with a bias. -/
def query (q : Vec Ideal S1x1x160x128 .bf16) (b : Vec Ideal S1x1x160 .f32) (r : Fin 128) (d : Fin 160) : EReal :=
  q (ix4 0 0 d r) + b (ix3 0 0 d)

/-- The ratio of a biased query is the row's ratio. -/
theorem ratio_biased (q : Vec Ideal S1x1x160x128 .bf16) (b : Vec Ideal S1x1x160 .f32) (r : Fin 128) :
    ratio (F := Ideal) (biased q b) (ix2 0 r) = Row.ratio (query q b r) := by
  rw [ratio_apply]
  simp only [biased_apply]
  rfl

/-- The codes of a biased query are the row's codes. -/
theorem codes_biased (q : Vec Ideal S1x1x160x128 .bf16) (b : Vec Ideal S1x1x160 .f32) (d : Fin 160) (r : Fin 128) :
    codes (F := Ideal) (biased q b) (ratio (biased q b)) (ix2 d r) = Row.codeBuilt (query q b r) d := by
  rw [codes_apply, ratio_biased, biased_apply]
  rfl

/-- The scale of a biased query is the row's scale. -/
theorem scale_biased (q : Vec Ideal S1x1x160x128 .bf16) (b : Vec Ideal S1x1x160 .f32) (r : Fin 128) :
    scale (F := Ideal) (ratio (biased q b)) (ix2 0 r) = Row.scaleBuilt (query q b r) := by
  rw [scale_apply, ratio_biased]
  rfl

/-- A head's attention output, row by row. -/
theorem attend_apply (q : Vec Ideal S1x1x160x128 .bf16) (u v : Vec Ideal S1x1x160 .f32) (ks ps vs : EReal)
    (k : Vec Ideal S1x1x160x1024 .fp8e4m3) (p : Vec Ideal S1x160x1152 .fp8e4m3) (vt : Vec Ideal S1x1x160x1024 .fp8e4m3)
    (r : Fin 128) (d : Fin 160) :
    attend (F := Ideal) q u v ks ps vs k p vt (ix2 r d) = Row.attendBuilt (query q u r) (query q v r) ks ps vs
      (fun e j => k (ix4 0 0 e j)) (fun e j => p (ix3 0 e ⟨127 + j.val - r.val, by omega⟩)) (fun j => vt (ix4 0 0 d j)) := by
  unfold attend
  rw [mixed_apply]
  simp only [powers_apply, scores_apply, content_apply, shifted_apply, wide_apply, column_apply, codes_biased, scale_biased]
  rfl

end Cert.KernelIdeal.Head
-- ==== Proof.Pieces.lean ====
/- What one run of the idealized kernel's body stores, head by head, in the vocabulary of one head. -/
module

public import proofs.«01_k».proof.Proof.Head

@[expose] public section

set_option maxRecDepth 16384

noncomputable section

namespace Cert.KernelIdeal.Head

open Cert.KernelIdeal Cert.KernelIdeal.Gen Cert.KernelIdeal.Body
open Idealize.ShloMosaic Idealize.ShloMosaic.TcCoe Idealize.ShloMosaic.Tactic

variable {F : FTy → Type} [FloatOps F] [Named F]

/-- A load of a whole buffer through a rectangle reads the contents at the rectangle's indices. -/
theorem load_unread {κ' : Kind} {sp : Space} {s : Shape} {e : EltTy} (m : Memref sig κ' sp s e) (h : m.IsWhole) (X : s.Idx → Elt F e) (r : Rect s) :
    View.readAt (Elt F) m.view r.toLoadRect (h.unread X) = View.ld X r := by
  rw [View.readAt_eq_ld, h.read_unread]

/-- Head `h`'s rectangle of the block of queries, and of the codes' blocks. -/
abbrev qrect (h : Fin 4) : Rect S1x4x160x128 :=
  Rect.unit ![0, h.val, 0, 0] S1x1x160x128.size (by revert h; decide)
/-- Head `h`'s row of a bias block. -/
abbrev brect (h : Fin 4) : Rect S1x4x160 := Rect.unit ![0, h.val, 0] S1x1x160.size (by revert h; decide)
/-- Head `h`'s rectangle of the block of keys, and of values. -/
abbrev krect (h : Fin 4) : Rect S1x4x160x1024 :=
  Rect.unit ![0, h.val, 0, 0] S1x1x160x1024.size (by revert h; decide)
/-- Head `h`'s row of a block of scales. -/
abbrev srect (h : Fin 4) : Rect S1x1x4x128 := Rect.unit ![0, 0, h.val, 0] S1x1x1x128.size (by revert h; decide)
/-- The column of the positions where the body's window starts. -/
abbrev pcol (i : grid0.Coords) : ℕ := (k0_off3 i) 2
/-- A point's window of the position codes lies inside them. -/
theorem prect_inb (i : grid0.Coords) (h : Fin 4) (a : Fin 3) : (![h.val, 0, pcol i] : Fin 3 → ℕ) a + S1x160x1152.size a ≤ S4x160x2048.size a := by
  match h with
  | 0 => exact k0_off3_inb i a
  | 1 => exact k0_off4_inb i a
  | 2 => exact k0_off5_inb i a
  | 3 => exact k0_off6_inb i a
/-- Head `h`'s window of the block of positions. -/
abbrev prect (i : grid0.Coords) (h : Fin 4) : Rect S4x160x2048 := Rect.unit ![h.val, 0, pcol i] S1x160x1152.size (prect_inb i h)

/-- The query of head `h` with a bias. -/
abbrev hx (x5 : Vec F S1x4x160x128 .bf16) (b : Vec F S1x4x160 .f32) (h : Fin 4) : FVec F S160x128 .f32 :=
  biased (View.ld x5 (qrect h)) (View.ld b (brect h))
/-- What is stored for head `h`'s codes. -/
abbrev cpiece (x5 : Vec F S1x4x160x128 .bf16) (b : Vec F S1x4x160 .f32) (h : Fin 4) : View.Piece (Elt F) S1x4x160x128 .fp8e4m3 :=
  ⟨qrect h, shapeCast S1x1x160x128 (codes (hx x5 b h) (ratio (hx x5 b h))) shapeCasts_S160x128_S1x1x160x128⟩
/-- What is stored for head `h`'s scales. -/
abbrev spiece (x5 : Vec F S1x4x160x128 .bf16) (b : Vec F S1x4x160 .f32) (h : Fin 4) : View.Piece (Elt F) S1x1x4x128 .f32 :=
  ⟨srect h, shapeCast S1x1x1x128 (scale (ratio (hx x5 b h))) shapeCasts_S1x128_S1x1x1x128⟩

/-- Head `h`'s word of a table indexed by batch and head. -/
abbrev tword (X : Vec F S2x8 .f32) (i : grid0.Coords) (h : Fin 4) : Elt F .f32 :=
  View.ld X (Rect.unit (k0_off1 i (BitVec.ofNat 32 h.val)) S1x1.size (k0_off1_inb i h)) (Shape.Idx.first (Nat.lt_of_lt_of_eq Nat.one_pos numel1_S1x1.symm))
/-- Head `h`'s word of a table indexed by head. -/
abbrev pword (X : Vec F S1x8 .f32) (i : grid0.Coords) (h : Fin 4) : Elt F .f32 :=
  View.ld X (Rect.unit (k0_off2 i (BitVec.ofNat 32 h.val)) S1x1.size (k0_off2_inb i h)) (Shape.Idx.first (Nat.lt_of_lt_of_eq Nat.one_pos numel1_S1x1.symm))
section Pieces
set_option maxHeartbeats 4000000

variable (c : Dev nD) (i : grid0.Coords) (arg3 : Memref sig .tc .smem S2x8 .f32) (harg3 : arg3.IsWhole) (arg4 : Memref sig .tc .smem S2x8 .f32) (harg4 : arg4.IsWhole) (arg5 : Memref sig .tc .smem S1x8 .f32) (harg5 : arg5.IsWhole) (arg6 : Memref sig .tc .vmem S1x4x160 .f32) (harg6 : arg6.IsWhole) (arg7 : Memref sig .tc .vmem S1x4x160 .f32) (harg7 : arg7.IsWhole) (arg8 : Memref sig .tc .vmem S1x4x160x128 .bf16) (harg8 : arg8.IsWhole) (arg9 : Memref sig .tc .vmem S1x4x160x1024 .fp8e4m3) (harg9 : arg9.IsWhole) (arg10 : Memref sig .tc .vmem S1x4x160x1024 .fp8e4m3) (harg10 : arg10.IsWhole) (arg11 : Memref sig .tc .vmem S4x160x2048 .fp8e4m3) (harg11 : arg11.IsWhole) (arg12 : Memref sig .tc .vmem S1x128x640 .bf16) (harg12 : arg12.IsWhole) (arg13 : Memref sig .tc .vmem S1x4x160x128 .fp8e4m3) (harg13 : arg13.IsWhole) (arg14 : Memref sig .tc .vmem S1x1x4x128 .f32) (harg14 : arg14.IsWhole) (arg15 : Memref sig .tc .vmem S1x4x160x128 .fp8e4m3) (harg15 : arg15.IsWhole) (arg16 : Memref sig .tc .vmem S1x1x4x128 .f32) (harg16 : arg16.IsWhole)
  (x0 : Vec F S2x8 .f32) (x1 : Vec F S2x8 .f32) (x2 : Vec F S1x8 .f32) (x3 : Vec F S1x4x160 .f32) (x4 : Vec F S1x4x160 .f32) (x5 : Vec F S1x4x160x128 .bf16) (x6 : Vec F S1x4x160x1024 .fp8e4m3) (x7 : Vec F S1x4x160x1024 .fp8e4m3) (x8 : Vec F S4x160x2048 .fp8e4m3)

/-- The pieces the body stores in the codes of the query with the first bias. -/
theorem pieces_codes_u : (kernelRun0_A c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).2.1
    = [cpiece x5 x3 3, cpiece x5 x3 2, cpiece x5 x3 1, cpiece x5 x3 0] := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, load_unread]
  sl_kernel_rfl

/-- The pieces the body stores in the scales of the query with the first bias. -/
theorem pieces_scales_u : (kernelRun0_A c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).2.2.1
    = [spiece x5 x3 3, spiece x5 x3 2, spiece x5 x3 1, spiece x5 x3 0] := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, load_unread]
  sl_kernel_rfl

/-- The pieces the body stores in the codes of the query with the second bias. -/
theorem pieces_codes_v : (kernelRun0_A c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).2.2.2.1
    = [cpiece x5 x4 3, cpiece x5 x4 2, cpiece x5 x4 1, cpiece x5 x4 0] := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, load_unread]
  sl_kernel_rfl

/-- The pieces the body stores in the scales of the query with the second bias. -/
theorem pieces_scales_v : (kernelRun0_A c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).2.2.2.2.1
    = [spiece x5 x4 3, spiece x5 x4 2, spiece x5 x4 1, spiece x5 x4 0] := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, load_unread]
  sl_kernel_rfl

/-- Head `h`'s attention output at grid point `i`. -/
abbrev hout (i : grid0.Coords) (x0 : Vec F S2x8 .f32) (x1 : Vec F S2x8 .f32) (x2 : Vec F S1x8 .f32) (x3 : Vec F S1x4x160 .f32) (x4 : Vec F S1x4x160 .f32) (x5 : Vec F S1x4x160x128 .bf16) (x6 : Vec F S1x4x160x1024 .fp8e4m3) (x7 : Vec F S1x4x160x1024 .fp8e4m3) (x8 : Vec F S4x160x2048 .fp8e4m3) (h : Fin 4) : FVec F S128x160 .f32 :=
  attend (View.ld x5 (qrect h)) (View.ld x3 (brect h)) (View.ld x4 (brect h))
    (tword x0 i h) (pword x2 i h) (tword x1 i h)
    (View.ld x6 (krect h)) (View.ld x8 (prect i h)) (View.ld x7 (krect h))

/-- The piece the body stores in the attention output: the four heads side by side. -/
theorem pieces_out : (kernelRun0_A c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).1
    = [⟨Rect.unit ![0, 0, 0] ![1, 128, 640] (by decide), k0_pay1 (hout i x0 x1 x2 x3 x4 x5 x6 x7 x8 0) (hout i x0 x1 x2 x3 x4 x5 x6 x7 x8 1)
        (hout i x0 x1 x2 x3 x4 x5 x6 x7 x8 2) (hout i x0 x1 x2 x3 x4 x5 x6 x7 x8 3)⟩] := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, load_unread]
  sl_kernel_rfl

end Pieces

end Cert.KernelIdeal.Head
-- ==== Proof.BlockIdeal.lean ====
/- The blocks one run of the idealized kernel's body leaves in its five outputs, at the extended reals, index by index. -/
module

public import proofs.«01_k».proof.Proof.HeadIdeal
public import proofs.«01_k».proof.Proof.Pieces

@[expose] public section

set_option maxRecDepth 16384

noncomputable section

namespace Cert.KernelIdeal.Head

open Cert.KernelIdeal Cert.KernelIdeal.Gen Cert.KernelIdeal.Body
open Idealize.ShloMosaic Idealize.ShloMosaic.TcCoe Idealize.ShloMosaic.Tactic Idealize.ShloMosaic.Pointwise

/-- The query of head `h` and row `r` of a block, with a bias. -/
def rowq (x5 : Vec Ideal S1x4x160x128 .bf16) (b : Vec Ideal S1x4x160 .f32) (h : Fin 4) (r : Fin 128) (d : Fin 160) : EReal :=
  x5 (ix4 0 h d r) + b (ix3 0 h d)

/-- A row read out of the point's blocks. -/
theorem query_ld (x5 : Vec Ideal S1x4x160x128 .bf16) (b : Vec Ideal S1x4x160 .f32) (h : Fin 4) (r : Fin 128) :
    query (View.ld x5 (qrect h)) (View.ld b (brect h)) r = rowq x5 b h r := by
  funext d
  pointwise [query, rowq]

/-- The block of codes. -/
def codesAt (x5 : Vec Ideal S1x4x160x128 .bf16) (b : Vec Ideal S1x4x160 .f32) : Vec Ideal S1x4x160x128 .fp8e4m3 :=
  fun y => Row.codeBuilt (rowq x5 b (y 1) (y 3)) (y 2)

/-- The block of scales. -/
def scalesAt (x5 : Vec Ideal S1x4x160x128 .bf16) (b : Vec Ideal S1x4x160 .f32) : Vec Ideal S1x1x4x128 .f32 :=
  fun y => Row.scaleBuilt (rowq x5 b (y 2) (y 3))

/-- Where an entry of a head's codes lies in the block. -/
theorem qrect_emb (h : Fin 4) (z1 z2 : Fin 1) (e : Fin 160) (r : Fin 128) : (qrect h).emb (ix4 z1 z2 e r) = ix4 0 h e r := by
  funext a
  apply Fin.ext
  have h1 := z1.isLt
  have h2 := z2.isLt
  match a with
  | ⟨0, _⟩ => show 0 + 1 * z1.val = 0; omega
  | ⟨1, _⟩ => show h.val + 1 * z2.val = h.val; omega
  | ⟨2, _⟩ => show 0 + 1 * e.val = e.val; omega
  | ⟨3, _⟩ => show 0 + 1 * r.val = r.val; omega

/-- Where an entry of a head's scales lies in the block. -/
theorem srect_emb (h : Fin 4) (z1 z2 z3 : Fin 1) (r : Fin 128) : (srect h).emb (ix4 z1 z2 z3 r) = ix4 0 0 h r := by
  funext a
  apply Fin.ext
  have h1 := z1.isLt
  have h2 := z2.isLt
  have h3 := z3.isLt
  match a with
  | ⟨0, _⟩ => show 0 + 1 * z1.val = 0; omega
  | ⟨1, _⟩ => show 0 + 1 * z2.val = 0; omega
  | ⟨2, _⟩ => show h.val + 1 * z3.val = h.val; omega
  | ⟨3, _⟩ => show 0 + 1 * r.val = r.val; omega

/-- An entry of the codes stored for a head. -/
theorem cpiece_ix (x5 : Vec Ideal S1x4x160x128 .bf16) (b : Vec Ideal S1x4x160 .f32) (h : Fin 4) (z1 z2 : Fin 1) (e : Fin 160) (r : Fin 128) :
    shapeCast S1x1x160x128 (codes (F := Ideal) (hx x5 b h) (ratio (hx x5 b h))) shapeCasts_S160x128_S1x1x160x128 (ix4 z1 z2 e r)
      = Row.codeBuilt (rowq x5 b h r) e := by
  have k : shapeCast S1x1x160x128 (codes (F := Ideal) (hx x5 b h) (ratio (hx x5 b h))) shapeCasts_S160x128_S1x1x160x128 (ix4 z1 z2 e r)
      = codes (F := Ideal) (hx x5 b h) (ratio (hx x5 b h)) (ix2 e r) := by
    generalize codes (F := Ideal) (hx x5 b h) (ratio (hx x5 b h)) = k
    pointwise
  rw [k, ← query_ld]
  exact codes_biased _ _ _ _

/-- An entry of the scales stored for a head. -/
theorem spiece_ix (x5 : Vec Ideal S1x4x160x128 .bf16) (b : Vec Ideal S1x4x160 .f32) (h : Fin 4) (z1 z2 z3 : Fin 1) (r : Fin 128) :
    shapeCast S1x1x1x128 (scale (F := Ideal) (ratio (hx x5 b h))) shapeCasts_S1x128_S1x1x1x128 (ix4 z1 z2 z3 r)
      = Row.scaleBuilt (rowq x5 b h r) := by
  have k : shapeCast S1x1x1x128 (scale (F := Ideal) (ratio (hx x5 b h))) shapeCasts_S1x128_S1x1x1x128 (ix4 z1 z2 z3 r)
      = scale (F := Ideal) (ratio (hx x5 b h)) (ix2 0 r) := by
    generalize scale (F := Ideal) (ratio (hx x5 b h)) = k
    pointwise
  rw [k, ← query_ld]
  exact scale_biased _ _ _

/-- What is stored for one head's codes is that head's part of the block of codes. -/
theorem cpiece_apply (x5 : Vec Ideal S1x4x160x128 .bf16) (b : Vec Ideal S1x4x160 .f32) (h : Fin 4) (x : (qrect h).shape.Idx) :
    (cpiece (F := Ideal) x5 b h).2 x = codesAt x5 b ((qrect h).emb x) := by
  have e : x = ix4 (n0 := 1) (n1 := 1) (n2 := 160) (n3 := 128) (x 0) (x 1) (x 2) (x 3) := eq_ix4 (n0 := 1) (n1 := 1) (n2 := 160) (n3 := 128) x
  rw [e]
  exact (cpiece_ix x5 b h (x 0) (x 1) (x 2) (x 3)).trans (congrArg (codesAt x5 b) (qrect_emb h (x 0) (x 1) (x 2) (x 3))).symm

/-- What is stored for one head's scales is that head's part of the block of scales. -/
theorem spiece_apply (x5 : Vec Ideal S1x4x160x128 .bf16) (b : Vec Ideal S1x4x160 .f32) (h : Fin 4) (x : (srect h).shape.Idx) :
    (spiece (F := Ideal) x5 b h).2 x = scalesAt x5 b ((srect h).emb x) := by
  have e : x = ix4 (n0 := 1) (n1 := 1) (n2 := 1) (n3 := 128) (x 0) (x 1) (x 2) (x 3) := eq_ix4 (n0 := 1) (n1 := 1) (n2 := 1) (n3 := 128) x
  rw [e]
  exact (spiece_ix x5 b h (x 0) (x 1) (x 2) (x 3)).trans (congrArg (scalesAt x5 b) (srect_emb h (x 0) (x 1) (x 2) (x 3))).symm

section Writes
variable {κ' : Kind} {sp : Space}

/-- The four heads' codes fill the block of codes, whatever it held before. -/
theorem codes_writes (M : Memref sig κ' sp S1x4x160x128 .fp8e4m3) (f) (x5 : Vec Ideal S1x4x160x128 .bf16) (b : Vec Ideal S1x4x160 .f32) :
    M.view.read (Elt Ideal) (M.view.writes (Elt Ideal) f [cpiece x5 b 3, cpiece x5 b 2, cpiece x5 b 1, cpiece x5 b 0]) = codesAt x5 b := by
  funext y
  refine View.read_writes_apply_of_pieces _ _ (codesAt x5 b) _ ?_ y (View.cover_of_tiledL (s := S1x4x160x128) _ S1x1x160x128.size (by sl_kernel_rfl) y)
  intro p hp x
  simp only [List.mem_cons, List.mem_nil_iff, or_false] at hp
  rcases hp with rfl | rfl | rfl | rfl <;> exact cpiece_apply _ _ _ _

/-- The four heads' scales fill the block of scales, whatever it held before. -/
theorem scales_writes (M : Memref sig κ' sp S1x1x4x128 .f32) (f) (x5 : Vec Ideal S1x4x160x128 .bf16) (b : Vec Ideal S1x4x160 .f32) :
    M.view.read (Elt Ideal) (M.view.writes (Elt Ideal) f [spiece x5 b 3, spiece x5 b 2, spiece x5 b 1, spiece x5 b 0]) = scalesAt x5 b := by
  funext y
  refine View.read_writes_apply_of_pieces _ _ (scalesAt x5 b) _ ?_ y (View.cover_of_tiledL (s := S1x1x4x128) _ S1x1x1x128.size (by sl_kernel_rfl) y)
  intro p hp x
  simp only [List.mem_cons, List.mem_nil_iff, or_false] at hp
  rcases hp with rfl | rfl | rfl | rfl <;> exact spiece_apply _ _ _ _

end Writes

/-- The factor of a head is at its batch and its number among all heads. -/
theorem off1_val : ∀ (i : grid0.Coords) (h : Fin 4), k0_off1 i (BitVec.ofNat 32 h.val) = ![(i 0).val, 4 * (i 1).val + h.val] := by decide +kernel
/-- The position factor of a head is at its number among all heads. -/
theorem off2_val : ∀ (i : grid0.Coords) (h : Fin 4), k0_off2 i (BitVec.ofNat 32 h.val) = ![0, 4 * (i 1).val + h.val] := by decide +kernel
/-- The first column of a point's window of the position codes. -/
theorem pcol_val : ∀ (i : grid0.Coords), pcol i = (7 - (i 2).val) * 128 := by decide +kernel

/-- A word of a table indexed by batch and head. -/
theorem tword_apply (X : Vec Ideal S2x8 .f32) (i : grid0.Coords) (h : Fin 4) (n : Fin 2) (k : Fin 8) (hn : n.val = (i 0).val) (hk : k.val = 4 * (i 1).val + h.val) :
    tword X i h = X (ix2 n k) := by
  show X _ = X _
  congr 1
  funext a
  apply Fin.ext
  have e := off1_val i h
  match a with
  | ⟨0, _⟩ =>
    show k0_off1 i (BitVec.ofNat 32 h.val) 0 + 1 * 0 = n.val
    rw [e, hn]; rfl
  | ⟨1, _⟩ =>
    show k0_off1 i (BitVec.ofNat 32 h.val) 1 + 1 * 0 = k.val
    rw [e, hk]; rfl

/-- A word of a table indexed by head. -/
theorem pword_apply (X : Vec Ideal S1x8 .f32) (i : grid0.Coords) (h : Fin 4) (k : Fin 8) (hk : k.val = 4 * (i 1).val + h.val) :
    pword X i h = X (ix2 0 k) := by
  show X _ = X _
  congr 1
  funext a
  apply Fin.ext
  have e := off2_val i h
  match a with
  | ⟨0, _⟩ =>
    show k0_off2 i (BitVec.ofNat 32 h.val) 0 + 1 * 0 = 0
    rw [e]; rfl
  | ⟨1, _⟩ =>
    show k0_off2 i (BitVec.ofNat 32 h.val) 1 + 1 * 0 = k.val
    rw [e, hk]; rfl

/-- The column that holds a key's relative position is a column of the position codes. -/
theorem col_lt (i : grid0.Coords) (j : Fin 1024) (r : Fin 128) : (7 - (i 2).val) * 128 + 127 + j.val - r.val < 2048 := by
  omega
/-- A head of a group is one of all heads. -/
theorem head_lt (i : grid0.Coords) (h : Fin 4) : 4 * (i 1).val + h.val < 8 := by
  have : (i 1).val < 2 := (i 1).isLt
  omega

/-- The attention output of head `h`, row `r`, column `d` of one block. -/
def headAt (i : grid0.Coords) (x0 x1 : Vec Ideal S2x8 .f32) (x2 : Vec Ideal S1x8 .f32) (x3 x4 : Vec Ideal S1x4x160 .f32) (x5 : Vec Ideal S1x4x160x128 .bf16)
    (x6 x7 : Vec Ideal S1x4x160x1024 .fp8e4m3) (x8 : Vec Ideal S4x160x2048 .fp8e4m3) (h : Fin 4) (r : Fin 128) (d : Fin 160) : EReal :=
  Row.attendBuilt (rowq x5 x3 h r) (rowq x5 x4 h r) (x0 (ix2 (i 0) ⟨4 * (i 1).val + h.val, head_lt i h⟩)) (x2 (ix2 0 ⟨4 * (i 1).val + h.val, head_lt i h⟩))
    (x1 (ix2 (i 0) ⟨4 * (i 1).val + h.val, head_lt i h⟩)) (fun e j => x6 (ix4 0 h e j))
    (fun e j => x8 (ix3 h e ⟨(7 - (i 2).val) * 128 + 127 + j.val - r.val, col_lt i j r⟩)) (fun j => x7 (ix4 0 h d j))

/-- An entry of a head's output at a point. -/
theorem hout_apply (i : grid0.Coords) (x0 x1 : Vec Ideal S2x8 .f32) (x2 : Vec Ideal S1x8 .f32) (x3 x4 : Vec Ideal S1x4x160 .f32) (x5 : Vec Ideal S1x4x160x128 .bf16)
    (x6 x7 : Vec Ideal S1x4x160x1024 .fp8e4m3) (x8 : Vec Ideal S4x160x2048 .fp8e4m3) (h : Fin 4) (r : Fin 128) (d : Fin 160) :
    hout (F := Ideal) i x0 x1 x2 x3 x4 x5 x6 x7 x8 h (ix2 r d) = headAt i x0 x1 x2 x3 x4 x5 x6 x7 x8 h r d := by
  dsimp only [hout]
  refine (attend_apply _ _ _ _ _ _ _ _ _ _ _).trans ?_
  rw [query_ld, query_ld, tword_apply x0 i h (i 0) ⟨4 * (i 1).val + h.val, head_lt i h⟩ rfl rfl, tword_apply x1 i h (i 0) ⟨4 * (i 1).val + h.val, head_lt i h⟩ rfl rfl,
    pword_apply x2 i h ⟨4 * (i 1).val + h.val, head_lt i h⟩ rfl]
  have eK : ∀ (X : Vec Ideal S1x4x160x1024 .fp8e4m3) (e : Fin 160) (j : Fin 1024), View.ld X (krect h) (ix4 0 0 e j) = X (ix4 0 h e j) := by
    intro X e j
    pointwise
  have eP : ∀ (e : Fin 160) (j : Fin 1024) (hlt : 127 + j.val - r.val < 1152), View.ld x8 (prect i h) (ix3 0 e ⟨127 + j.val - r.val, hlt⟩)
      = x8 (ix3 h e ⟨(7 - (i 2).val) * 128 + 127 + j.val - r.val, col_lt i j r⟩) := by
    intro e j hlt
    show x8 _ = x8 _
    congr 1
    funext a
    apply Fin.ext
    match a with
    | ⟨0, _⟩ => show h.val + 1 * 0 = h.val; omega
    | ⟨1, _⟩ => show 0 + 1 * e.val = e.val; omega
    | ⟨2, _⟩ =>
      show pcol i + 1 * (127 + j.val - r.val) = (7 - (i 2).val) * 128 + 127 + j.val - r.val
      rw [pcol_val]; omega
  unfold headAt
  simp only [eP]
  refine congrArg₂ (fun K V => Row.attendBuilt (rowq x5 x3 h r) (rowq x5 x4 h r) (x0 (ix2 (i 0) ⟨4 * (i 1).val + h.val, head_lt i h⟩)) (x2 (ix2 0 ⟨4 * (i 1).val + h.val, head_lt i h⟩))
    (x1 (ix2 (i 0) ⟨4 * (i 1).val + h.val, head_lt i h⟩)) K (fun e j => x8 (ix3 h e ⟨(7 - (i 2).val) * 128 + 127 + j.val - r.val, col_lt i j r⟩)) V) ?_ ?_
  · funext e j; exact eK x6 e j
  · funext j; exact eK x7 d j

/-- The block of the attention output: four heads side by side. -/
def outAt (i : grid0.Coords) (x0 x1 : Vec Ideal S2x8 .f32) (x2 : Vec Ideal S1x8 .f32) (x3 x4 : Vec Ideal S1x4x160 .f32) (x5 : Vec Ideal S1x4x160x128 .bf16)
    (x6 x7 : Vec Ideal S1x4x160x1024 .fp8e4m3) (x8 : Vec Ideal S4x160x2048 .fp8e4m3) : Vec Ideal S1x128x640 .bf16 :=
  fun y => headAt i x0 x1 x2 x3 x4 x5 x6 x7 x8 ⟨(y 2).val / 160, Nat.div_lt_of_lt_mul (y 2).isLt⟩ (y 1) ⟨(y 2).val % 160, Nat.mod_lt _ (by decide)⟩

/-- Four heads' outputs side by side. -/
theorem pay1_apply (A : Fin 4 → FVec Ideal S128x160 .f32) (z : Fin 1) (r : Fin 128) (l : Fin 640) :
    k0_pay1 (F := Ideal) (A 0) (A 1) (A 2) (A 3) (ix3 z r l) = A ⟨l.val / 160, Nat.div_lt_of_lt_mul l.isLt⟩ (ix2 r ⟨l.val % 160, Nat.mod_lt _ (by decide)⟩) := by
  have key : ∀ (k k' : Fin 4) (a a' : Fin 160), k = k' → a = a' → A k (ix2 r a) = A k' (ix2 r a') := by
    rintro k k' a a' rfl rfl; rfl
  have hl := l.isLt
  pointwise [k0_pay1]
  by_cases h1 : l.val < 160
  · rw [dif_pos h1]
    exact key _ _ _ _ (Fin.ext (by show 0 = l.val / 160; omega)) (Fin.ext (by show l.val = l.val % 160; omega))
  rw [dif_neg h1]
  by_cases h2 : l.val - 160 < 160
  · rw [dif_pos h2]
    exact key _ _ _ _ (Fin.ext (by show 1 = l.val / 160; omega)) (Fin.ext (by show l.val - 160 = l.val % 160; omega))
  rw [dif_neg h2]
  by_cases h3 : l.val - 160 - 160 < 160
  · rw [dif_pos h3]
    exact key _ _ _ _ (Fin.ext (by show 2 = l.val / 160; omega)) (Fin.ext (by show l.val - 160 - 160 = l.val % 160; omega))
  rw [dif_neg h3]
  exact key _ _ _ _ (Fin.ext (by show 3 = l.val / 160; omega)) (Fin.ext (by show l.val - 160 - 160 - 160 = l.val % 160; omega))

/-- The attention output's store fills its block, whatever it held before. -/
theorem out_writes {κ' : Kind} {sp : Space} (M : Memref sig κ' sp S1x128x640 .bf16) (f) (i : grid0.Coords) (x0 x1 : Vec Ideal S2x8 .f32) (x2 : Vec Ideal S1x8 .f32)
    (x3 x4 : Vec Ideal S1x4x160 .f32) (x5 : Vec Ideal S1x4x160x128 .bf16) (x6 x7 : Vec Ideal S1x4x160x1024 .fp8e4m3) (x8 : Vec Ideal S4x160x2048 .fp8e4m3)
    (hb : ∀ a, (![0, 0, 0] : Fin 3 → ℕ) a + (![1, 128, 640] : Fin 3 → ℕ) a ≤ S1x128x640.size a) :
    M.view.read (Elt Ideal) (M.view.writes (Elt Ideal) f [⟨Rect.unit ![0, 0, 0] ![1, 128, 640] hb,
      k0_pay1 (F := Ideal) (hout i x0 x1 x2 x3 x4 x5 x6 x7 x8 0) (hout i x0 x1 x2 x3 x4 x5 x6 x7 x8 1) (hout i x0 x1 x2 x3 x4 x5 x6 x7 x8 2)
        (hout i x0 x1 x2 x3 x4 x5 x6 x7 x8 3)⟩]) = outAt i x0 x1 x2 x3 x4 x5 x6 x7 x8 := by
  funext y
  refine View.read_writes_apply_of_pieces _ _ (outAt i x0 x1 x2 x3 x4 x5 x6 x7 x8) _ ?_ y (View.cover_of_tiledL (s := S1x128x640) _ S1x128x640.size (by sl_kernel_rfl) y)
  intro p hp x
  simp only [List.mem_cons, List.mem_nil_iff, or_false] at hp
  subst hp
  have e : (Rect.unit (s := S1x128x640) ![0, 0, 0] ![1, 128, 640] hb).emb x = x := by
    funext a
    apply Fin.ext
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega
  rw [e]
  have e' : x = ix3 (n0 := 1) (n1 := 128) (n2 := 640) (x 0) (x 1) (x 2) := eq_ix3 (n0 := 1) (n1 := 128) (n2 := 640) x
  rw [e']
  exact (pay1_apply (fun h => hout (F := Ideal) i x0 x1 x2 x3 x4 x5 x6 x7 x8 h) (x 0) (x 1) (x 2)).trans (hout_apply _ _ _ _ _ _ _ _ _ _ _ _ _)

/-- The attention output reads the block of positions only at its first 2047 columns. -/
theorem outAt_congr (i : grid0.Coords) (x0 x1 : Vec Ideal S2x8 .f32) (x2 : Vec Ideal S1x8 .f32) (x3 x4 : Vec Ideal S1x4x160 .f32) (x5 : Vec Ideal S1x4x160x128 .bf16)
    (x6 x7 : Vec Ideal S1x4x160x1024 .fp8e4m3) (x8 x8' : Vec Ideal S4x160x2048 .fp8e4m3)
    (hx : ∀ (h : Fin 4) (e : Fin 160) (l : Fin 2048), l.val < 2047 → x8 (ix3 h e l) = x8' (ix3 h e l)) :
    outAt i x0 x1 x2 x3 x4 x5 x6 x7 x8 = outAt i x0 x1 x2 x3 x4 x5 x6 x7 x8' := by
  funext y
  unfold outAt headAt
  congr 1
  funext e j
  refine hx _ _ _ ?_
  have := j.isLt
  show (7 - (i 2).val) * 128 + 127 + j.val - (y 1).val < 2047
  omega

end Cert.KernelIdeal.Head
-- ==== Proof.BodyNamed.lean ====
/- One run of the idealized kernel's body at the extended reals, its five output blocks named. -/
module

public import proofs.«01_k».proof.Proof.BlockIdeal

@[expose] public section

set_option maxRecDepth 16384

noncomputable section

namespace Cert.KernelIdeal.Head

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option maxHeartbeats 1200000 in
/-- From its inputs' blocks the body leaves the five output blocks, and its inputs as it found them. -/
theorem body_named (c : Dev nD) (i : grid0.Coords) (arg3 : Memref sig .tc .smem S2x8 .f32) (harg3 : arg3.IsWhole) (arg4 : Memref sig .tc .smem S2x8 .f32) (harg4 : arg4.IsWhole) (arg5 : Memref sig .tc .smem S1x8 .f32) (harg5 : arg5.IsWhole) (arg6 : Memref sig .tc .vmem S1x4x160 .f32) (harg6 : arg6.IsWhole) (arg7 : Memref sig .tc .vmem S1x4x160 .f32) (harg7 : arg7.IsWhole) (arg8 : Memref sig .tc .vmem S1x4x160x128 .bf16) (harg8 : arg8.IsWhole) (arg9 : Memref sig .tc .vmem S1x4x160x1024 .fp8e4m3) (harg9 : arg9.IsWhole) (arg10 : Memref sig .tc .vmem S1x4x160x1024 .fp8e4m3) (harg10 : arg10.IsWhole) (arg11 : Memref sig .tc .vmem S4x160x2048 .fp8e4m3) (harg11 : arg11.IsWhole) (arg12 : Memref sig .tc .vmem S1x128x640 .bf16) (harg12 : arg12.IsWhole) (arg13 : Memref sig .tc .vmem S1x4x160x128 .fp8e4m3) (harg13 : arg13.IsWhole) (arg14 : Memref sig .tc .vmem S1x1x4x128 .f32) (harg14 : arg14.IsWhole) (arg15 : Memref sig .tc .vmem S1x4x160x128 .fp8e4m3) (harg15 : arg15.IsWhole) (arg16 : Memref sig .tc .vmem S1x1x4x128 .f32) (harg16 : arg16.IsWhole)
    (x0 : Vec Ideal S2x8 .f32) (x1 : Vec Ideal S2x8 .f32) (x2 : Vec Ideal S1x8 .f32) (x3 : Vec Ideal S1x4x160 .f32) (x4 : Vec Ideal S1x4x160 .f32) (x5 : Vec Ideal S1x4x160x128 .bf16) (x6 : Vec Ideal S1x4x160x1024 .fp8e4m3) (x7 : Vec Ideal S1x4x160x1024 .fp8e4m3) (x8 : Vec Ideal S4x160x2048 .fp8e4m3)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (outAt i x0 x1 x2 x3 x4 x5 x6 x7 x8) ∗ owns (c : Thread nD τ) arg13 fullShare (codesAt x5 x3) ∗ owns (c : Thread nD τ) arg14 fullShare (scalesAt x5 x3) ∗ owns (c : Thread nD τ) arg15 fullShare (codesAt x5 x4) ∗ owns (c : Thread nD τ) arg16 fullShare (scalesAt x5 x4)) -∗ K ⟨⟩))
          ⊢ wp frame (wpE (defs₀ (F := Ideal)) Variants.none c none) E (cc0_relpos_attn i arg3 harg3 arg4 harg4 arg5 harg5 arg6 harg6 arg7 harg7 arg8 harg8 arg9 harg9 arg10 harg10 arg11 harg11 arg12 harg12 arg13 harg13 arg14 harg14 arg15 harg15 arg16 harg16) K := by
  have e9 := pieces_out (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
  have e10 := pieces_codes_u (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
  have e11 := pieces_scales_u (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
  have e12 := pieces_codes_v (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
  have e13 := pieces_scales_v (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
  generalize kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 = R at e9 e10 e11 e12 e13
  obtain ⟨L9, L10, L11, L12, L13, hT⟩ := R
  dsimp only at e9 e10 e11 e12 e13
  have T := hT E K
  have w9 : ∀ f, arg12.view.read (Elt Ideal) (arg12.view.writes (Elt Ideal) f L9) = outAt i x0 x1 x2 x3 x4 x5 x6 x7 x8 := by
    intro f; rw [e9]; exact out_writes _ _ _ _ _ _ _ _ _ _ _ _ _
  have w10 : ∀ f, arg13.view.read (Elt Ideal) (arg13.view.writes (Elt Ideal) f L10) = codesAt x5 x3 := by
    intro f; rw [e10]; exact codes_writes _ _ _ _
  have w11 : ∀ f, arg14.view.read (Elt Ideal) (arg14.view.writes (Elt Ideal) f L11) = scalesAt x5 x3 := by
    intro f; rw [e11]; exact scales_writes _ _ _ _
  have w12 : ∀ f, arg15.view.read (Elt Ideal) (arg15.view.writes (Elt Ideal) f L12) = codesAt x5 x4 := by
    intro f; rw [e12]; exact codes_writes _ _ _ _
  have w13 : ∀ f, arg16.view.read (Elt Ideal) (arg16.view.writes (Elt Ideal) f L13) = scalesAt x5 x4 := by
    intro f; rw [e13]; exact scales_writes _ _ _ _
  clear e9 e10 e11 e12 e13
  refine BIBase.Entails.trans ?_ T
  iintro ⟨H0, H1, H2, H3, H4, H5, H6, H7, H8, H9, H10, H11, H12, H13, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, ⟨%e9, H9⟩, ⟨%e10, H10⟩, ⟨%e11, H11⟩, ⟨%e12, H12⟩, ⟨%e13, H13⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact w9 _
  isplitl [H10]
  · unfold owns; iexists _; isplitr
    swap; · iexact H10
    ipureintro; exact w10 _
  isplitl [H11]
  · unfold owns; iexists _; isplitr
    swap; · iexact H11
    ipureintro; exact w11 _
  isplitl [H12]
  · unfold owns; iexists _; isplitr
    swap; · iexact H12
    ipureintro; exact w12 _
  unfold owns; iexists _; isplitr
  swap; · iexact H13
  ipureintro; exact w13 _

end Cert.KernelIdeal.Head
-- ==== Proof.KernelIdealRun.lean ====
/- The run of the idealized kernel at the extended reals with its five output arrays named: what every run of the body leaves in
   every staging buffer, point by point, and from it one statement of the whole run. The window of positions ends one column past
   its array; what stands in that column is not known and no output depends on it. -/
module

public import proofs.«01_k».proof.Proof.KernelIdealFrame
public import proofs.«01_k».proof.Proof.BodyNamed

@[expose] public section

set_option maxRecDepth 16384

noncomputable section

namespace Cert.KernelIdeal.Value

open Cert.KernelIdeal Cert.KernelIdeal.Gen Cert.KernelIdeal.Body Cert.KernelIdeal.Head
open Cert.KernelIdeal.Run (ms0_0 ms0_1 ms0_2 ms0_3 ms0_4 ms0_5 ms0_6 ms0_7 ms0_8 ms0_9 ms0_10 ms0_11 ms0_12 ms0_13)
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The window of positions moves all its rows and 2047 of its columns. -/
theorem xsize8 : ∀ (i : grid0.Coords) (a : Fin 3), win0_8.xsize i a = (![4, 160, 2047] : Fin 3 → ℕ) a := by decide +kernel
/-- Every point cuts the window of positions alike. -/
theorem clip8 : ∀ (i : grid0.Coords), win0_8.clip i = win0_8.clip (grid0.coords ⟨0, by decide⟩) := by decide +kernel

/-- The block of positions at a point, its last column at contents nothing names. -/
def posAt (c : Dev nD) (t : Fin cfg0.N) (d : S4x160x2048.Idx → Elt Ideal .fp8e4m3) : Vec Ideal S4x160x2048 .fp8e4m3 :=
  win0_8.fill (grid0.coords t) d (iblk m c 8 t)

/-- The columns of the position codes that are read do not depend on what the buffer held before. -/
theorem posAt_congr (c : Dev nD) (t : Fin cfg0.N) (d d' : S4x160x2048.Idx → Elt Ideal .fp8e4m3) (h : Fin 4) (e : Fin 160) (l : Fin 2048) (hl : l.val < 2047) :
    posAt m c t d (ix3 h e l) = posAt m c t d' (ix3 h e l) := by
  have hm : win0_8.moved (grid0.coords t) (ix3 h e l) = true := by
    rw [Window.moved_iff]
    intro a
    rw [xsize8]
    match a with
    | ⟨0, _⟩ => exact h.isLt
    | ⟨1, _⟩ => exact e.isLt
    | ⟨2, _⟩ => exact hl
  unfold posAt Window.fill
  rw [dif_pos hm, dif_pos hm]

/-- The attention output's block at a point, from what stands in the last column of the positions. -/
abbrev outBlk (c : Dev nD) (t : Fin cfg0.N) (d : S4x160x2048.Idx → Elt Ideal .fp8e4m3) : Vec Ideal S1x128x640 .bf16 :=
  outAt (grid0.coords t) (iblk m c 0 t) (iblk m c 1 t) (iblk m c 2 t) (iblk m c 3 t) (iblk m c 4 t) (iblk m c 5 t) (iblk m c 6 t) (iblk m c 7 t) (posAt m c t d)

/-- The output's block does not depend on what the buffer of positions held before. -/
theorem outBlk_congr (c : Dev nD) (t : Fin cfg0.N) (d d') : outBlk m c t d = outBlk m c t d' :=
  outAt_congr _ _ _ _ _ _ _ _ _ _ _ fun h e l hl => posAt_congr m c t d d' h e l hl

/-- The contents that stand for the unknown column. -/
def junk8 : S4x160x2048.Idx → Elt Ideal .fp8e4m3 := fun _ => (0 : EReal)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => posAt m c t junk8
    | ⟨9, _⟩ => outBlk m c t junk8
    | ⟨10, _⟩ => codesAt (iblk m c 5 t) (iblk m c 3 t)
    | ⟨11, _⟩ => scalesAt (iblk m c 5 t) (iblk m c 3 t)
    | ⟨12, _⟩ => codesAt (iblk m c 5 t) (iblk m c 4 t)
    | ⟨13, _⟩ => scalesAt (iblk m c 5 t) (iblk m c 4 t)
  Φ _ := Pipeline.ΦA spec0 c
  q _ := fullShare
  owed _ := 0

/-- An array as the call finds it. -/
theorem A_eq (c : Dev nD) (w : Fin cfg0.W) : (dats m 0 c).A w = V m c (Pipeline.arrRef spec0 w) := by
  dsimp only [dats]

/-- A point leaves this input's block as it was. -/
theorem after0_0 (c : Dev nD) (t : Fin cfg0.N) : (dats m 0 c).after 0 t = iblk m c 0 t := by dsimp only [dats]
/-- A point leaves this input's block as it was. -/
theorem after0_1 (c : Dev nD) (t : Fin cfg0.N) : (dats m 0 c).after 1 t = iblk m c 1 t := by dsimp only [dats]
/-- A point leaves this input's block as it was. -/
theorem after0_2 (c : Dev nD) (t : Fin cfg0.N) : (dats m 0 c).after 2 t = iblk m c 2 t := by dsimp only [dats]
/-- A point leaves this input's block as it was. -/
theorem after0_3 (c : Dev nD) (t : Fin cfg0.N) : (dats m 0 c).after 3 t = iblk m c 3 t := by dsimp only [dats]
/-- A point leaves this input's block as it was. -/
theorem after0_4 (c : Dev nD) (t : Fin cfg0.N) : (dats m 0 c).after 4 t = iblk m c 4 t := by dsimp only [dats]
/-- A point leaves this input's block as it was. -/
theorem after0_5 (c : Dev nD) (t : Fin cfg0.N) : (dats m 0 c).after 5 t = iblk m c 5 t := by dsimp only [dats]
/-- A point leaves this input's block as it was. -/
theorem after0_6 (c : Dev nD) (t : Fin cfg0.N) : (dats m 0 c).after 6 t = iblk m c 6 t := by dsimp only [dats]
/-- A point leaves this input's block as it was. -/
theorem after0_7 (c : Dev nD) (t : Fin cfg0.N) : (dats m 0 c).after 7 t = iblk m c 7 t := by dsimp only [dats]
/-- A point leaves the block of positions as it was, with a fixed value for the column that is not brought in. -/
theorem after0_8 (c : Dev nD) (t : Fin cfg0.N) : (dats m 0 c).after 8 t = posAt m c t junk8 := by dsimp only [dats]
/-- A point leaves the attention output's block. -/
theorem after0_9 (c : Dev nD) (t : Fin cfg0.N) : (dats m 0 c).after 9 t = outBlk m c t junk8 := by dsimp only [dats]
/-- A point leaves the block of codes with the first bias. -/
theorem after0_10 (c : Dev nD) (t : Fin cfg0.N) : (dats m 0 c).after 10 t = codesAt (iblk m c 5 t) (iblk m c 3 t) := by dsimp only [dats]
/-- A point leaves the block of scales with the first bias. -/
theorem after0_11 (c : Dev nD) (t : Fin cfg0.N) : (dats m 0 c).after 11 t = scalesAt (iblk m c 5 t) (iblk m c 3 t) := by dsimp only [dats]
/-- A point leaves the block of codes with the second bias. -/
theorem after0_12 (c : Dev nD) (t : Fin cfg0.N) : (dats m 0 c).after 12 t = codesAt (iblk m c 5 t) (iblk m c 4 t) := by dsimp only [dats]
/-- A point leaves the block of scales with the second bias. -/
theorem after0_13 (c : Dev nD) (t : Fin cfg0.N) : (dats m 0 c).after 13 t = scalesAt (iblk m c 5 t) (iblk m c 4 t) := by dsimp only [dats]
/-- A point finds this input's block as it was brought in. -/
theorem before0_0 (c : Dev nD) (t : Fin cfg0.N) (d) : (dats m 0 c).before 0 t d = iblk m c 0 t :=
  before0_0_of m (dats m 0 c) (A_eq m c 0) (after0_0 m c) t d
/-- A point finds this input's block as it was brought in. -/
theorem before0_1 (c : Dev nD) (t : Fin cfg0.N) (d) : (dats m 0 c).before 1 t d = iblk m c 1 t :=
  before0_1_of m (dats m 0 c) (A_eq m c 1) (after0_1 m c) t d
/-- A point finds this input's block as it was brought in. -/
theorem before0_2 (c : Dev nD) (t : Fin cfg0.N) (d) : (dats m 0 c).before 2 t d = iblk m c 2 t :=
  before0_2_of m (dats m 0 c) (A_eq m c 2) (after0_2 m c) t d
/-- A point finds this input's block as it was brought in. -/
theorem before0_3 (c : Dev nD) (t : Fin cfg0.N) (d) : (dats m 0 c).before 3 t d = iblk m c 3 t :=
  before0_3_of m (dats m 0 c) (A_eq m c 3) (after0_3 m c) t d
/-- A point finds this input's block as it was brought in. -/
theorem before0_4 (c : Dev nD) (t : Fin cfg0.N) (d) : (dats m 0 c).before 4 t d = iblk m c 4 t :=
  before0_4_of m (dats m 0 c) (A_eq m c 4) (after0_4 m c) t d
/-- A point finds this input's block as it was brought in. -/
theorem before0_5 (c : Dev nD) (t : Fin cfg0.N) (d) : (dats m 0 c).before 5 t d = iblk m c 5 t :=
  before0_5_of m (dats m 0 c) (A_eq m c 5) (after0_5 m c) t d
/-- A point finds this input's block as it was brought in. -/
theorem before0_6 (c : Dev nD) (t : Fin cfg0.N) (d) : (dats m 0 c).before 6 t d = iblk m c 6 t :=
  before0_6_of m (dats m 0 c) (A_eq m c 6) (after0_6 m c) t d
/-- A point finds this input's block as it was brought in. -/
theorem before0_7 (c : Dev nD) (t : Fin cfg0.N) (d) : (dats m 0 c).before 7 t d = iblk m c 7 t :=
  before0_7_of m (dats m 0 c) (A_eq m c 7) (after0_7 m c) t d

/-- Cut to what the transfers move, the block of positions is the array's block. -/
theorem cut8 (c : Dev nD) (t : Fin cfg0.N) (d) : win0_8.cut (grid0.coords t) (posAt m c t d) = iblk m c 8 t := win0_8.cut_fill _ _ _

/-- The window of positions holds its block, its last column unknown, at every point. -/
theorem before0_8 (c : Dev nD) (t : Fin cfg0.N) (d) : (dats m 0 c).before 8 t d = posAt m c t d :=
  (Dat.before_in_eq_fetched (dats m 0 c) 8 rfl (fun _ => rfl)
    (fun t t' _ => (clip8 (grid0.coords t)).trans (clip8 (grid0.coords t')).symm)
    (fun t => (congrArg (win0_8.cut (grid0.coords t)) (after0_8 m c t)).trans (cut8 m c t junk8)) t d)

/-! ## The body obligation, at a generic point -/

/-- What holds before the body at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What holds after the body at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare (win0_8.fill (grid0.coords t) d (win0_8.cut (grid0.coords t) ((dats m 0 c).after 8 t))))
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1200000 in
/-- The body at any point: it finds its blocks in the input windows and leaves the outputs' blocks. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, cut8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [outBlk_congr m c t junk8 d8]
  iapply (body_named c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (posAt m c t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexact H9
  isplitl [H10]; · iexact H10
  isplitl [H11]; · iexact H11
  isplitl [H12]; · iexact H12
  iexact H13

/-- The library's body obligation, at every point: the window of positions is described only where its transfers reach. -/
theorem body_obligation (c : Dev nD) : BodyObligationLoose (dats m 0 c) (defs₀ (F := Ideal)) Variants.none () Set.univ := fun t => by
  rw [bigSep_W0, bigSep_W0, Run.defs₀_row]
  exact triple_restated (sound_body m c t) rfl .rfl fun _ => .rfl

set_option backward.isDefEq.respectTransparency.types false in
set_option maxHeartbeats 800000 in
/-- The run: every weakly fair execution terminates, every array of the pipeline ends as the proof data say, and every other
    buffer as the lines after the region leave it. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run, with every array at what the points and the last operations leave in it. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Value

end
-- ==== Proof.Spec.lean ====
/- The five results as functions of the arguments' entries, in the two spellings the two programs compute them. -/
module

public import proofs.«01_k».proof.Proof.Row

@[expose] public section

noncomputable section

namespace Cert.Spec

/-- The query of batch `n`, position `i` and head `h`, with a bias. -/
def row (q : Fin 2 → Fin 1024 → Fin 8 → Fin 160 → EReal) (b : Fin 8 → Fin 160 → EReal) (n : Fin 2) (i : Fin 1024) (h : Fin 8) : Fin 160 → EReal :=
  fun d => q n i h d + b h d

/-- The relative position of key `j` for query `i`, counted from the lowest one. -/
def rel (i j : Fin 1024) : Fin 2047 := ⟨1023 - i.val + j.val, by omega⟩

section
variable (q : Fin 2 → Fin 1024 → Fin 8 → Fin 160 → EReal) (k : Fin 2 → Fin 1024 → Fin 8 → Fin 160 → EReal) (ks : Fin 2 → Fin 8 → EReal)
  (w : Fin 2 → Fin 1024 → Fin 8 → Fin 160 → EReal) (ws : Fin 2 → Fin 8 → EReal) (p : Fin 2047 → Fin 8 → Fin 160 → EReal) (ps : Fin 8 → EReal)
  (u v : Fin 8 → Fin 160 → EReal)

/-- The attention output as the kernel computes it. -/
def outBuilt (n : Fin 2) (i : Fin 1024) (h : Fin 8) (d : Fin 160) : EReal :=
  Row.attendBuilt (row q u n i h) (row q v n i h) (ks n h) (ps h) (ws n h) (fun e j => k n j h e) (fun e j => p (rel i j) h e) (fun j => w n j h d)

/-- The attention output as the mathematics states it. -/
def out (n : Fin 2) (i : Fin 1024) (h : Fin 8) (d : Fin 160) : EReal :=
  Row.attend (row q u n i h) (row q v n i h) (ks n h) (ps h) (ws n h) (fun e j => k n j h e) (fun e j => p (rel i j) h e) (fun j => w n j h d)

variable {q k ks w ws p ps u v}

/-- For bounded rows the output as built from the search for the exponent is the specified output. -/
theorem outBuilt_eq {n : Fin 2} {i : Fin 1024} {h : Fin 8} (hu : Row.Finite (row q u n i h)) (hv : Row.Finite (row q v n i h)) (d : Fin 160) :
    outBuilt q k ks w ws p ps u v n i h d = out q k ks w ws p ps u v n i h d :=
  Row.attendBuilt_eq hu hv _ _ _ _ _ _

end

end Cert.Spec
-- ==== Proof.Entry.lean ====
/- The blocks the idealized kernel's body reads at a point of the grid, entry by entry as entries of the arguments. -/
module

public import proofs.«01_k».proof.Proof.KernelIdealRun
public import proofs.«01_k».proof.Proof.Spec

@[expose] public section

set_option maxRecDepth 16384

noncomputable section

namespace Cert.KernelIdeal.Value

open Cert.KernelIdeal Cert.KernelIdeal.Gen Cert.KernelIdeal.Body Cert.KernelIdeal.Head
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ)

/-! ## The arguments, entry by entry -/

/-- The query entry of the arguments. -/
def aq (c : Dev nD) (n : Fin 2) (i : Fin 1024) (h : Fin 8) (d : Fin 160) : EReal := (m ((c : Thread nD τ).loc main_arg0) : Vec Ideal S2x1024x8x160 .bf16) (ix4 n i h d)
/-- The key's code, an entry of the arguments. -/
def ak (c : Dev nD) (n : Fin 2) (i : Fin 1024) (h : Fin 8) (d : Fin 160) : EReal := (m ((c : Thread nD τ).loc main_arg1) : Vec Ideal S2x1024x8x160 .fp8e4m3) (ix4 n i h d)
/-- The keys' factor, an entry of the arguments. -/
def aks (c : Dev nD) (n : Fin 2) (h : Fin 8) : EReal := (m ((c : Thread nD τ).loc main_arg2) : Vec Ideal S2x8 .f32) (ix2 n h)
/-- The value's code, an entry of the arguments. -/
def aw (c : Dev nD) (n : Fin 2) (i : Fin 1024) (h : Fin 8) (d : Fin 160) : EReal := (m ((c : Thread nD τ).loc main_arg3) : Vec Ideal S2x1024x8x160 .fp8e4m3) (ix4 n i h d)
/-- The values' factor, an entry of the arguments. -/
def aws (c : Dev nD) (n : Fin 2) (h : Fin 8) : EReal := (m ((c : Thread nD τ).loc main_arg4) : Vec Ideal S2x8 .f32) (ix2 n h)
/-- The position's code, an entry of the arguments. -/
def ap (c : Dev nD) (l : Fin 2047) (h : Fin 8) (d : Fin 160) : EReal := (m ((c : Thread nD τ).loc main_arg5) : Vec Ideal S2047x8x160 .fp8e4m3) (ix3 l h d)
/-- The positions' factor, an entry of the arguments. -/
def aps (c : Dev nD) (h : Fin 8) : EReal := (m ((c : Thread nD τ).loc main_arg6) : Vec Ideal S8 .f32) (ix1 h)
/-- The first bias entry of the arguments. -/
def au (c : Dev nD) (h : Fin 8) (d : Fin 160) : EReal := (m ((c : Thread nD τ).loc main_arg7) : Vec Ideal S8x160 .f32) (ix2 h d)
/-- The second bias entry of the arguments. -/
def av (c : Dev nD) (h : Fin 8) (d : Fin 160) : EReal := (m ((c : Thread nD τ).loc main_arg8) : Vec Ideal S8x160 .f32) (ix2 h d)

/-! ## The arrays as the region finds them -/

/-- What the operations before the call leave in this input: an argument with its axes rearranged. -/
theorem V_main_v0 (c : Dev nD) : V m c main_v0 = transpose S2x8x160x1024 [0, 2, 3, 1] (m ((c : Thread nD τ).loc main_arg0) : Vec Ideal S2x1024x8x160 .bf16) transposes_S2x1024x8x160_S2x8x160x1024_0_2_3_1 := by
  show StableHlo.after hostOps0 (fun b => m (c, b)) (Proc.devRef .tc main_v0) = _
  after_results
/-- What the operations before the call leave in this input: an argument with its axes rearranged. -/
theorem V_main_v1 (c : Dev nD) : V m c main_v1 = transpose S2x8x160x1024 [0, 2, 3, 1] (m ((c : Thread nD τ).loc main_arg1) : Vec Ideal S2x1024x8x160 .fp8e4m3) transposes_S2x1024x8x160_S2x8x160x1024_0_2_3_1 := by
  show StableHlo.after hostOps0 (fun b => m (c, b)) (Proc.devRef .tc main_v1) = _
  after_results
/-- What the operations before the call leave in this input: an argument with its axes rearranged. -/
theorem V_main_v2 (c : Dev nD) : V m c main_v2 = transpose S2x8x160x1024 [0, 2, 3, 1] (m ((c : Thread nD τ).loc main_arg3) : Vec Ideal S2x1024x8x160 .fp8e4m3) transposes_S2x1024x8x160_S2x8x160x1024_0_2_3_1 := by
  show StableHlo.after hostOps0 (fun b => m (c, b)) (Proc.devRef .tc main_v2) = _
  after_results
/-- What the operations before the call leave in this input: an argument with its axes rearranged. -/
theorem V_main_v3 (c : Dev nD) : V m c main_v3 = transpose S8x160x2047 [1, 2, 0] (m ((c : Thread nD τ).loc main_arg5) : Vec Ideal S2047x8x160 .fp8e4m3) transposes_S2047x8x160_S8x160x2047_1_2_0 := by
  show StableHlo.after hostOps0 (fun b => m (c, b)) (Proc.devRef .tc main_v3) = _
  after_results
/-- What the operations before the call leave in this input: an argument reshaped. -/
theorem V_main_v4 (c : Dev nD) : V m c main_v4 = shapeCast S1x8 (m ((c : Thread nD τ).loc main_arg6) : Vec Ideal S8 .f32) shapeCasts_S8_S1x8 := by
  show StableHlo.after hostOps0 (fun b => m (c, b)) (Proc.devRef .tc main_v4) = _
  after_results
  rfl
/-- What the operations before the call leave in this input: an argument reshaped. -/
theorem V_main_v5 (c : Dev nD) : V m c main_v5 = shapeCast S2x4x160 (m ((c : Thread nD τ).loc main_arg7) : Vec Ideal S8x160 .f32) shapeCasts_S8x160_S2x4x160 := by
  show StableHlo.after hostOps0 (fun b => m (c, b)) (Proc.devRef .tc main_v5) = _
  after_results
  rfl
/-- What the operations before the call leave in this input: an argument reshaped. -/
theorem V_main_v6 (c : Dev nD) : V m c main_v6 = shapeCast S2x4x160 (m ((c : Thread nD τ).loc main_arg8) : Vec Ideal S8x160 .f32) shapeCasts_S8x160_S2x4x160 := by
  show StableHlo.after hostOps0 (fun b => m (c, b)) (Proc.devRef .tc main_v6) = _
  after_results
  rfl

/-! ## Where a point's blocks lie -/

/-- Which block of this input a point reads. -/
theorem index0 : ∀ t : Fin cfg0.N, win0_0.index t = ![0, 0] := by decide +kernel
/-- Which block of this input a point reads. -/
theorem index1 : ∀ t : Fin cfg0.N, win0_1.index t = ![0, 0] := by decide +kernel
/-- Which block of this input a point reads. -/
theorem index2 : ∀ t : Fin cfg0.N, win0_2.index t = ![0, 0] := by decide +kernel
/-- Which block of this input a point reads. -/
theorem index3 : ∀ t : Fin cfg0.N, win0_3.index t = ![((grid0.coords t) 1).val, 0, 0] := by decide +kernel
/-- Which block of this input a point reads. -/
theorem index4 : ∀ t : Fin cfg0.N, win0_4.index t = ![((grid0.coords t) 1).val, 0, 0] := by decide +kernel
/-- Which block of this input a point reads. -/
theorem index5 : ∀ t : Fin cfg0.N, win0_5.index t = ![((grid0.coords t) 0).val, ((grid0.coords t) 1).val, 0, ((grid0.coords t) 2).val] := by decide +kernel
/-- Which block of this input a point reads. -/
theorem index6 : ∀ t : Fin cfg0.N, win0_6.index t = ![((grid0.coords t) 0).val, ((grid0.coords t) 1).val, 0, 0] := by decide +kernel
/-- Which block of this input a point reads. -/
theorem index7 : ∀ t : Fin cfg0.N, win0_7.index t = ![((grid0.coords t) 0).val, ((grid0.coords t) 1).val, 0, 0] := by decide +kernel
/-- Which block of this input a point reads. -/
theorem index8 : ∀ t : Fin cfg0.N, win0_8.index t = ![((grid0.coords t) 1).val, 0, 0] := by decide +kernel

/-- The batch of a point. -/
abbrev bat (t : Fin cfg0.N) : Fin 2 := (grid0.coords t) 0
/-- The head of a point's head among all heads. -/
abbrev hd (t : Fin cfg0.N) (h : Fin 4) : Fin 8 := ⟨4 * ((grid0.coords t) 1).val + h.val, head_lt _ h⟩
/-- A row of a query block is a query position. -/
theorem pos_lt (t : Fin cfg0.N) (r : Fin 128) : 128 * ((grid0.coords t) 2).val + r.val < 1024 := by
  have : ((grid0.coords t) 2).val < 8 := ((grid0.coords t) 2).isLt
  omega
/-- The query position of a point's row. -/
abbrev pos (t : Fin cfg0.N) (r : Fin 128) : Fin 1024 := ⟨128 * ((grid0.coords t) 2).val + r.val, pos_lt t r⟩

/-- A bias `[8, 160]` reshaped to groups of four heads, entry by entry. -/
theorem bias_grouped (X : Vec Ideal S8x160 .f32) (b : Fin 2) (h : Fin 4) (d : Fin 160) :
    shapeCast S2x4x160 X shapeCasts_S8x160_S2x4x160 (ix3 b h d) = X (ix2 ⟨4 * b.val + h.val, by omega⟩ d) := by
  refine shapeCast_apply X shapeCasts_S8x160_S2x4x160 (ix3 b h d) (ix2 ⟨4 * b.val + h.val, by omega⟩ d) ?_
  rw [Shape.rowMajor_val_two, Shape.rowMajor_val_three]
  show (4 * b.val + h.val) * 160 + d.val = (b.val * 4 + h.val) * 160 + d.val
  omega

/-! ## The blocks -/

/-- An entry of this input's block at a point, as an entry of the arguments. -/
theorem iblk0_apply (c : Dev nD) (t : Fin cfg0.N) (n : Fin 2) (h : Fin 8) : (iblk m c 0 t : Vec Ideal S2x8 .f32) (ix2 n h) = aks m c n h := by
  show V m c main_arg2 ((win0_0.rect t).emb (ix2 n h)) = _
  have e : (win0_0.rect t).emb (ix2 n h) = ix2 n h := by
    funext a; apply Fin.ext
    match a with
    | ⟨0, _⟩ => show win0_0.index t 0 * 2 + 1 * n.val = n.val; rw [index0]; show 0 * 2 + 1 * n.val = n.val; omega
    | ⟨1, _⟩ => show win0_0.index t 1 * 8 + 1 * h.val = h.val; rw [index0]; show 0 * 8 + 1 * h.val = h.val; omega
  rw [e, V_main_arg2]; rfl

/-- An entry of this input's block at a point, as an entry of the arguments. -/
theorem iblk1_apply (c : Dev nD) (t : Fin cfg0.N) (n : Fin 2) (h : Fin 8) : (iblk m c 1 t : Vec Ideal S2x8 .f32) (ix2 n h) = aws m c n h := by
  show V m c main_arg4 ((win0_1.rect t).emb (ix2 n h)) = _
  have e : (win0_1.rect t).emb (ix2 n h) = ix2 n h := by
    funext a; apply Fin.ext
    match a with
    | ⟨0, _⟩ => show win0_1.index t 0 * 2 + 1 * n.val = n.val; rw [index1]; show 0 * 2 + 1 * n.val = n.val; omega
    | ⟨1, _⟩ => show win0_1.index t 1 * 8 + 1 * h.val = h.val; rw [index1]; show 0 * 8 + 1 * h.val = h.val; omega
  rw [e, V_main_arg4]; rfl

/-- An entry of this input's block at a point, as an entry of the arguments. -/
theorem iblk2_apply (c : Dev nD) (t : Fin cfg0.N) (h : Fin 8) : (iblk m c 2 t : Vec Ideal S1x8 .f32) (ix2 0 h) = aps m c h := by
  show V m c main_v4 ((win0_2.rect t).emb (ix2 0 h)) = _
  have e : (win0_2.rect t).emb (ix2 0 h) = ix2 0 h := by
    funext a; apply Fin.ext
    match a with
    | ⟨0, _⟩ => show win0_2.index t 0 * 1 + 1 * 0 = 0; rw [index2]; rfl
    | ⟨1, _⟩ => show win0_2.index t 1 * 8 + 1 * h.val = h.val; rw [index2]; show 0 * 8 + 1 * h.val = h.val; omega
  rw [e, V_main_v4]
  unfold aps
  generalize (m ((c : Thread nD τ).loc main_arg6) : Vec Ideal S8 .f32) = X
  pointwise

/-- An entry of this input's block at a point, as an entry of the arguments. -/
theorem iblk3_apply (c : Dev nD) (t : Fin cfg0.N) (h : Fin 4) (d : Fin 160) : (iblk m c 3 t : Vec Ideal S1x4x160 .f32) (ix3 0 h d) = au m c (hd t h) d := by
  show V m c main_v5 ((win0_3.rect t).emb (ix3 0 h d)) = _
  have e : (win0_3.rect t).emb (ix3 0 h d) = ix3 ((grid0.coords t) 1) h d := by
    funext a; apply Fin.ext
    match a with
    | ⟨0, _⟩ => show win0_3.index t 0 * 1 + 1 * 0 = ((grid0.coords t) 1).val; rw [index3]; show ((grid0.coords t) 1).val * 1 + 1 * 0 = _; omega
    | ⟨1, _⟩ => show win0_3.index t 1 * 4 + 1 * h.val = h.val; rw [index3]; show 0 * 4 + 1 * h.val = h.val; omega
    | ⟨2, _⟩ => show win0_3.index t 2 * 160 + 1 * d.val = d.val; rw [index3]; show 0 * 160 + 1 * d.val = d.val; omega
  rw [e, V_main_v5]
  exact bias_grouped _ _ h d

/-- An entry of this input's block at a point, as an entry of the arguments. -/
theorem iblk4_apply (c : Dev nD) (t : Fin cfg0.N) (h : Fin 4) (d : Fin 160) : (iblk m c 4 t : Vec Ideal S1x4x160 .f32) (ix3 0 h d) = av m c (hd t h) d := by
  show V m c main_v6 ((win0_4.rect t).emb (ix3 0 h d)) = _
  have e : (win0_4.rect t).emb (ix3 0 h d) = ix3 ((grid0.coords t) 1) h d := by
    funext a; apply Fin.ext
    match a with
    | ⟨0, _⟩ => show win0_4.index t 0 * 1 + 1 * 0 = ((grid0.coords t) 1).val; rw [index4]; show ((grid0.coords t) 1).val * 1 + 1 * 0 = _; omega
    | ⟨1, _⟩ => show win0_4.index t 1 * 4 + 1 * h.val = h.val; rw [index4]; show 0 * 4 + 1 * h.val = h.val; omega
    | ⟨2, _⟩ => show win0_4.index t 2 * 160 + 1 * d.val = d.val; rw [index4]; show 0 * 160 + 1 * d.val = d.val; omega
  rw [e, V_main_v6]
  exact bias_grouped _ _ h d

/-- An entry of this input's block at a point, as an entry of the arguments. -/
theorem iblk5_apply (c : Dev nD) (t : Fin cfg0.N) (h : Fin 4) (d : Fin 160) (r : Fin 128) :
    (iblk m c 5 t : Vec Ideal S1x4x160x128 .bf16) (ix4 0 h d r) = aq m c (bat t) (pos t r) (hd t h) d := by
  show V m c main_v0 ((win0_5.rect t).emb (ix4 0 h d r)) = _
  have e : (win0_5.rect t).emb (ix4 0 h d r) = ix4 (bat t) (hd t h) d (pos t r) := by
    funext a; apply Fin.ext
    match a with
    | ⟨0, _⟩ => show win0_5.index t 0 * 1 + 1 * 0 = ((grid0.coords t) 0).val; rw [index5]; show ((grid0.coords t) 0).val * 1 + 1 * 0 = _; omega
    | ⟨1, _⟩ => show win0_5.index t 1 * 4 + 1 * h.val = (hd t h).val; rw [index5]; show ((grid0.coords t) 1).val * 4 + 1 * h.val = 4 * ((grid0.coords t) 1).val + h.val; omega
    | ⟨2, _⟩ => show win0_5.index t 2 * 160 + 1 * d.val = d.val; rw [index5]; show 0 * 160 + 1 * d.val = d.val; omega
    | ⟨3, _⟩ => show win0_5.index t 3 * 128 + 1 * r.val = (pos t r).val; rw [index5]; show ((grid0.coords t) 2).val * 128 + 1 * r.val = 128 * ((grid0.coords t) 2).val + r.val; omega
  rw [e, V_main_v0]
  unfold aq
  generalize (m ((c : Thread nD τ).loc main_arg0) : Vec Ideal S2x1024x8x160 .bf16) = X
  generalize bat t = n
  generalize hd t h = k
  generalize pos t r = i
  pointwise

/-- An entry of this input's block at a point, as an entry of the arguments. -/
theorem iblk6_apply (c : Dev nD) (t : Fin cfg0.N) (h : Fin 4) (d : Fin 160) (j : Fin 1024) :
    (iblk m c 6 t : Vec Ideal S1x4x160x1024 .fp8e4m3) (ix4 0 h d j) = ak m c (bat t) j (hd t h) d := by
  show V m c main_v1 ((win0_6.rect t).emb (ix4 0 h d j)) = _
  have e : (win0_6.rect t).emb (ix4 0 h d j) = ix4 (bat t) (hd t h) d j := by
    funext a; apply Fin.ext
    match a with
    | ⟨0, _⟩ => show win0_6.index t 0 * 1 + 1 * 0 = ((grid0.coords t) 0).val; rw [index6]; show ((grid0.coords t) 0).val * 1 + 1 * 0 = _; omega
    | ⟨1, _⟩ => show win0_6.index t 1 * 4 + 1 * h.val = (hd t h).val; rw [index6]; show ((grid0.coords t) 1).val * 4 + 1 * h.val = 4 * ((grid0.coords t) 1).val + h.val; omega
    | ⟨2, _⟩ => show win0_6.index t 2 * 160 + 1 * d.val = d.val; rw [index6]; show 0 * 160 + 1 * d.val = d.val; omega
    | ⟨3, _⟩ => show win0_6.index t 3 * 1024 + 1 * j.val = j.val; rw [index6]; show 0 * 1024 + 1 * j.val = j.val; omega
  rw [e, V_main_v1]
  unfold ak
  generalize (m ((c : Thread nD τ).loc main_arg1) : Vec Ideal S2x1024x8x160 .fp8e4m3) = X
  generalize bat t = n
  generalize hd t h = k
  pointwise

/-- An entry of this input's block at a point, as an entry of the arguments. -/
theorem iblk7_apply (c : Dev nD) (t : Fin cfg0.N) (h : Fin 4) (d : Fin 160) (j : Fin 1024) :
    (iblk m c 7 t : Vec Ideal S1x4x160x1024 .fp8e4m3) (ix4 0 h d j) = aw m c (bat t) j (hd t h) d := by
  show V m c main_v2 ((win0_7.rect t).emb (ix4 0 h d j)) = _
  have e : (win0_7.rect t).emb (ix4 0 h d j) = ix4 (bat t) (hd t h) d j := by
    funext a; apply Fin.ext
    match a with
    | ⟨0, _⟩ => show win0_7.index t 0 * 1 + 1 * 0 = ((grid0.coords t) 0).val; rw [index7]; show ((grid0.coords t) 0).val * 1 + 1 * 0 = _; omega
    | ⟨1, _⟩ => show win0_7.index t 1 * 4 + 1 * h.val = (hd t h).val; rw [index7]; show ((grid0.coords t) 1).val * 4 + 1 * h.val = 4 * ((grid0.coords t) 1).val + h.val; omega
    | ⟨2, _⟩ => show win0_7.index t 2 * 160 + 1 * d.val = d.val; rw [index7]; show 0 * 160 + 1 * d.val = d.val; omega
    | ⟨3, _⟩ => show win0_7.index t 3 * 1024 + 1 * j.val = j.val; rw [index7]; show 0 * 1024 + 1 * j.val = j.val; omega
  rw [e, V_main_v2]
  unfold aw
  generalize (m ((c : Thread nD τ).loc main_arg3) : Vec Ideal S2x1024x8x160 .fp8e4m3) = X
  generalize bat t = n
  generalize hd t h = k
  pointwise

/-- An entry of the position codes as a point finds them. -/
theorem posAt_apply (c : Dev nD) (t : Fin cfg0.N) (d0) (h : Fin 4) (d : Fin 160) (l : Fin 2048) (l' : Fin 2047) (hl : l.val = l'.val) :
    posAt m c t d0 (ix3 h d l) = ap m c l' (hd t h) d := by
  have hm : win0_8.moved (grid0.coords t) (ix3 h d l) = true := by
    rw [Pipeline.Window.moved_iff]
    intro a
    rw [xsize8]
    match a with
    | ⟨0, _⟩ => exact h.isLt
    | ⟨1, _⟩ => exact d.isLt
    | ⟨2, _⟩ => show l.val < 2047; omega
  unfold posAt Pipeline.Window.fill
  rw [dif_pos hm]
  show V m c main_v3 ((win0_8.rect t).emb _) = _
  refine (congrArg (V m c main_v3) (a₂ := ix3 (hd t h) d l') ?_).trans ?_
  · funext a; apply Fin.ext
    match a with
    | ⟨0, _⟩ => show win0_8.index t 0 * 4 + 1 * h.val = (hd t h).val; rw [index8]; show ((grid0.coords t) 1).val * 4 + 1 * h.val = 4 * ((grid0.coords t) 1).val + h.val; omega
    | ⟨1, _⟩ => show win0_8.index t 1 * 160 + 1 * d.val = d.val; rw [index8]; show 0 * 160 + 1 * d.val = d.val; omega
    | ⟨2, _⟩ => show win0_8.index t 2 * 2048 + 1 * l.val = l'.val; rw [index8]; show 0 * 2048 + 1 * l.val = l'.val; omega
  rw [V_main_v3]
  unfold ap
  generalize (m ((c : Thread nD τ).loc main_arg5) : Vec Ideal S2047x8x160 .fp8e4m3) = X
  generalize hd t h = k
  pointwise

end Cert.KernelIdeal.Value

end
-- ==== Proof.Arrays.lean ====
/- The idealized kernel's five results, each as one function of the arguments' entries, and its run. -/
module

public import proofs.«01_k».proof.Proof.Entry

@[expose] public section

set_option maxRecDepth 16384

noncomputable section

namespace Cert.KernelIdeal.Value

open Cert.KernelIdeal Cert.KernelIdeal.Gen Cert.KernelIdeal.Body Cert.KernelIdeal.Head
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (ρ : Dev nD → PrngReg)

/-! ## The arrays' contents -/

/-- The attention output. -/
def outArr (c : Dev nD) : Vec Ideal S2x1024x1280 .bf16 := fun y =>
  Spec.outBuilt (aq m c) (ak m c) (aks m c) (aw m c) (aws m c) (ap m c) (aps m c) (au m c) (av m c) (y 0) (y 1)
    ⟨(y 2).val / 160, by have : (y 2).val < 1280 := (y 2).isLt; omega⟩ ⟨(y 2).val % 160, Nat.mod_lt _ (by norm_num)⟩
/-- The codes of the biased queries, position last. -/
def codesArr (c : Dev nD) (b : Fin 8 → Fin 160 → EReal) : Vec Ideal S2x8x160x1024 .fp8e4m3 := fun y =>
  Row.codeBuilt (Spec.row (aq m c) b (y 0) (y 3) (y 1)) (y 2)
/-- The scales of the biased queries, in groups of four heads, position last. -/
def scalesArr (c : Dev nD) (b : Fin 8 → Fin 160 → EReal) : Vec Ideal S2x2x4x1024 .f32 := fun y =>
  Row.scaleBuilt (Spec.row (aq m c) b (y 0) (y 3) ⟨4 * (y 1).val + (y 2).val, by
    have : (y 1).val < 2 := (y 1).isLt
    have : (y 2).val < 4 := (y 2).isLt
    omega⟩)

/-! ## A point's rows are the arguments' rows -/

/-- A point's rows with the first bias are the arguments' rows. -/
theorem rowq_u (c : Dev nD) (t : Fin cfg0.N) (h : Fin 4) (r : Fin 128) :
    rowq (iblk m c 5 t) (iblk m c 3 t) h r = Spec.row (aq m c) (au m c) (bat t) (pos t r) (hd t h) := by
  funext d
  exact congrArg₂ (· + ·) (iblk5_apply m c t h d r) (iblk3_apply m c t h d)
/-- A point's rows with the second bias are the arguments' rows. -/
theorem rowq_v (c : Dev nD) (t : Fin cfg0.N) (h : Fin 4) (r : Fin 128) :
    rowq (iblk m c 5 t) (iblk m c 4 t) h r = Spec.row (aq m c) (av m c) (bat t) (pos t r) (hd t h) := by
  funext d
  exact congrArg₂ (· + ·) (iblk5_apply m c t h d r) (iblk4_apply m c t h d)

/-- What a point computes for a head is the output, as built, of its batch, query position and head. -/
theorem headAt_eq (c : Dev nD) (t : Fin cfg0.N) (d0) (h : Fin 4) (r : Fin 128) (d : Fin 160) :
    headAt (grid0.coords t) (iblk m c 0 t) (iblk m c 1 t) (iblk m c 2 t) (iblk m c 3 t) (iblk m c 4 t) (iblk m c 5 t) (iblk m c 6 t) (iblk m c 7 t)
      (posAt m c t d0) h r d
      = Spec.outBuilt (aq m c) (ak m c) (aks m c) (aw m c) (aws m c) (ap m c) (aps m c) (au m c) (av m c) (bat t) (pos t r) (hd t h) d := by
  unfold headAt Spec.outBuilt
  rw [rowq_u, rowq_v]
  have e0 : (iblk m c 0 t : Vec Ideal S2x8 .f32) (ix2 (bat t) (hd t h)) = aks m c (bat t) (hd t h) := iblk0_apply m c t _ _
  have e1 : (iblk m c 1 t : Vec Ideal S2x8 .f32) (ix2 (bat t) (hd t h)) = aws m c (bat t) (hd t h) := iblk1_apply m c t _ _
  have e2 : (iblk m c 2 t : Vec Ideal S1x8 .f32) (ix2 0 (hd t h)) = aps m c (hd t h) := iblk2_apply m c t _
  have e6 : (fun (e : Fin 160) (j : Fin 1024) => (iblk m c 6 t : Vec Ideal S1x4x160x1024 .fp8e4m3) (ix4 0 h e j)) = fun e j => ak m c (bat t) j (hd t h) e :=
    funext fun e => funext fun j => iblk6_apply m c t h e j
  have e7 : (fun (j : Fin 1024) => (iblk m c 7 t : Vec Ideal S1x4x160x1024 .fp8e4m3) (ix4 0 h d j)) = fun j => aw m c (bat t) j (hd t h) d :=
    funext fun j => iblk7_apply m c t h d j
  have e8 : (fun (e : Fin 160) (j : Fin 1024) => posAt m c t d0 (ix3 h e ⟨(7 - ((grid0.coords t) 2).val) * 128 + 127 + j.val - r.val, col_lt (grid0.coords t) j r⟩))
      = fun e j => ap m c (Spec.rel (pos t r) j) (hd t h) e :=
    funext fun e => funext fun j => posAt_apply m c t d0 h e _ _ (by
      have : ((grid0.coords t) 2).val < 8 := ((grid0.coords t) 2).isLt
      show (7 - ((grid0.coords t) 2).val) * 128 + 127 + j.val - r.val = 1023 - (128 * ((grid0.coords t) 2).val + r.val) + j.val
      omega)
  exact congr (congr (congr (congr (congr (congrArg _ e0) e2) e1) e6) e8) e7

/-! ## Which point writes an entry -/

/-- The point of batch `a`, head group `b` and position block `k`. -/
def pt (a : Fin 2) (b : Fin 2) (k : Fin 8) : Fin cfg0.N := ⟨a.val * 16 + b.val * 8 + k.val, by show _ < 32; omega⟩
/-- The coordinates of the point of given batch, group of heads and query block. -/
theorem pt_coords : ∀ (a : Fin 2) (b : Fin 2) (k : Fin 8), ((grid0.coords (pt a b k)) 0).val = a.val ∧ ((grid0.coords (pt a b k)) 1).val = b.val ∧ ((grid0.coords (pt a b k)) 2).val = k.val := by
  decide +kernel

/-- Which block of the attention output a point writes. -/
theorem index9 : ∀ t : Fin cfg0.N, win0_9.index t = ![((grid0.coords t) 0).val, ((grid0.coords t) 2).val, ((grid0.coords t) 1).val] := by decide +kernel
/-- Which block of the codes with the first bias a point writes. -/
theorem index10 : ∀ t : Fin cfg0.N, win0_10.index t = ![((grid0.coords t) 0).val, ((grid0.coords t) 1).val, 0, ((grid0.coords t) 2).val] := by decide +kernel
/-- Which block of the scales with the first bias a point writes. -/
theorem index11 : ∀ t : Fin cfg0.N, win0_11.index t = ![((grid0.coords t) 0).val, ((grid0.coords t) 1).val, 0, ((grid0.coords t) 2).val] := by decide +kernel
/-- Which block of the codes with the second bias a point writes. -/
theorem index12 : ∀ t : Fin cfg0.N, win0_12.index t = ![((grid0.coords t) 0).val, ((grid0.coords t) 1).val, 0, ((grid0.coords t) 2).val] := by decide +kernel
/-- Which block of the scales with the second bias a point writes. -/
theorem index13 : ∀ t : Fin cfg0.N, win0_13.index t = ![((grid0.coords t) 0).val, ((grid0.coords t) 1).val, 0, ((grid0.coords t) 2).val] := by decide +kernel

/-! ## The attention output -/

/-- A column of the output's block is a column of the output. -/
theorem col9_lt (t : Fin cfg0.N) (k : Fin 640) : 640 * ((grid0.coords t) 1).val + k.val < 1280 := by
  have : ((grid0.coords t) 1).val < 2 := ((grid0.coords t) 1).isLt
  omega

/-- Where an entry of a point's block lies in the array of the attention output. -/
theorem emb9 (t : Fin cfg0.N) (z : Fin 1) (r : Fin 128) (k : Fin 640) :
    ((cfg0.win 9).blk t).view.emb (ix3 z r k : S1x128x640.Idx) = (ix3 (bat t) (pos t r) (⟨640 * ((grid0.coords t) 1).val + k.val, col9_lt t k⟩ : Fin 1280) : S2x1024x1280.Idx) := by
  have hz : z.val = 0 := by omega
  funext a; apply Fin.ext
  match a with
  | ⟨0, _⟩ => show win0_9.index t 0 * 1 + 1 * z.val = ((grid0.coords t) 0).val; rw [index9]; show ((grid0.coords t) 0).val * 1 + 1 * z.val = _; omega
  | ⟨1, _⟩ => show win0_9.index t 1 * 128 + 1 * r.val = (pos t r).val; rw [index9]; show ((grid0.coords t) 2).val * 128 + 1 * r.val = 128 * ((grid0.coords t) 2).val + r.val; omega
  | ⟨2, _⟩ => show win0_9.index t 2 * 640 + 1 * k.val = 640 * ((grid0.coords t) 1).val + k.val; rw [index9]; show ((grid0.coords t) 1).val * 640 + 1 * k.val = _; omega

/-- A point writes back its block of the attention output. -/
theorem flushed9_eq (c : Dev nD) (t : Fin cfg0.N) :
    (dats m 0 c).flushed 9 t = ((cfg0.win 9).blk t).view.read (Elt Ideal) (outArr m c) := by
  show (cfg0.win 9).cut (grid0.coords t) ((dats m 0 c).after 9 t) = _
  rw [after0_9]
  funext j
  obtain ⟨z, r, k, rfl⟩ : ∃ z r k, j = (ix3 z r k : S1x128x640.Idx) := ⟨j 0, j 1, j 2, eq_ix3 (n0 := 1) (n1 := 128) (n2 := 640) j⟩
  show outBlk m c t junk8 (ix3 z r k) = outArr m c (((cfg0.win 9).blk t).view.emb (ix3 z r k : S1x128x640.Idx))
  rw [emb9]
  show headAt (grid0.coords t) (iblk m c 0 t) (iblk m c 1 t) (iblk m c 2 t) (iblk m c 3 t) (iblk m c 4 t) (iblk m c 5 t) (iblk m c 6 t) (iblk m c 7 t)
      (posAt m c t junk8) ⟨k.val / 160, by omega⟩ r ⟨k.val % 160, Nat.mod_lt _ (by norm_num)⟩
    = Spec.outBuilt (aq m c) (ak m c) (aks m c) (aw m c) (aws m c) (ap m c) (aps m c) (au m c) (av m c) (bat t) (pos t r)
        ⟨(640 * ((grid0.coords t) 1).val + k.val) / 160, _⟩ ⟨(640 * ((grid0.coords t) 1).val + k.val) % 160, _⟩
  rw [headAt_eq]
  congr 1
  · exact Fin.ext (by show 4 * ((grid0.coords t) 1).val + k.val / 160 = (640 * ((grid0.coords t) 1).val + k.val) / 160; omega)
  · exact Fin.ext (by show k.val % 160 = (640 * ((grid0.coords t) 1).val + k.val) % 160; omega)

/-- Every entry of the attention output is in some point's block. -/
theorem cover9 (y : S2x1024x1280.Idx) : ∃ t : Fin cfg0.N, (cfg0.win 9).flush t = true ∧ y ∈ ((cfg0.win 9).blk t).view.set := by
  suffices key : ∀ (n : Fin 2) (i : Fin 1024) (k : Fin 1280), ∃ t : Fin cfg0.N, (cfg0.win 9).flush t = true ∧ (ix3 n i k: S2x1024x1280.Idx) ∈ ((cfg0.win 9).blk t).view.set by
    rw [eq_ix3 (n0 := 2) (n1 := 1024) (n2 := 1280) y]
    exact key _ _ _
  intro n i k
  refine ⟨pt n ⟨k.val / 640, by omega⟩ ⟨i.val / 128, by omega⟩, flush0_9 _, ?_⟩
  have h := ((cfg0.win 9).blk (pt n ⟨k.val / 640, by omega⟩ ⟨i.val / 128, by omega⟩)).view.emb_mem_set
    (ix3 (0 : Fin 1) (⟨i.val % 128, Nat.mod_lt _ (by norm_num)⟩ : Fin 128) (⟨k.val % 640, Nat.mod_lt _ (by norm_num)⟩ : Fin 640) : S1x128x640.Idx)
  rw [emb9] at h
  obtain ⟨h0, h1, h2⟩ := pt_coords n ⟨k.val / 640, by omega⟩ ⟨i.val / 128, by omega⟩
  refine (congrArg (· ∈ _) ?_).mp h
  funext a; apply Fin.ext
  match a with
  | ⟨0, _⟩ => exact h0
  | ⟨1, _⟩ =>
    have e : ((grid0.coords (pt n ⟨k.val / 640, by omega⟩ ⟨i.val / 128, by omega⟩)) 2).val = i.val / 128 := h2
    show 128 * ((grid0.coords (pt n ⟨k.val / 640, by omega⟩ ⟨i.val / 128, by omega⟩)) 2).val + i.val % 128 = i.val
    omega
  | ⟨2, _⟩ =>
    have e : ((grid0.coords (pt n ⟨k.val / 640, by omega⟩ ⟨i.val / 128, by omega⟩)) 1).val = k.val / 640 := h1
    show 640 * ((grid0.coords (pt n ⟨k.val / 640, by omega⟩ ⟨i.val / 128, by omega⟩)) 1).val + k.val % 640 = k.val
    omega

/-- After the run the array holds the attention output. -/
theorem final9 (c : Dev nD) : (dats m 0 c).arrAt 9 cfg0.N = outArr m c :=
  (dats m 0 c).arrAt_eq_of_cover 9 (outArr m c) (fun t _ => flushed9_eq m c t) cover9

/-! ## The codes of the queries biased by `u` -/

/-- Where an entry of a point's block lies in the array of the codes with the first bias. -/
theorem emb10 (t : Fin cfg0.N) (z : Fin 1) (h : Fin 4) (d : Fin 160) (r : Fin 128) :
    ((cfg0.win 10).blk t).view.emb (ix4 z h d r : S1x4x160x128.Idx) = (ix4 (bat t) (hd t h) d (pos t r) : S2x8x160x1024.Idx) := by
  have hz : z.val = 0 := by omega
  funext a; apply Fin.ext
  match a with
  | ⟨0, _⟩ => show win0_10.index t 0 * 1 + 1 * z.val = ((grid0.coords t) 0).val; rw [index10]; show ((grid0.coords t) 0).val * 1 + 1 * z.val = _; omega
  | ⟨1, _⟩ => show win0_10.index t 1 * 4 + 1 * h.val = (hd t h).val; rw [index10]; show ((grid0.coords t) 1).val * 4 + 1 * h.val = 4 * ((grid0.coords t) 1).val + h.val; omega
  | ⟨2, _⟩ => show win0_10.index t 2 * 160 + 1 * d.val = d.val; rw [index10]; show 0 * 160 + 1 * d.val = d.val; omega
  | ⟨3, _⟩ => show win0_10.index t 3 * 128 + 1 * r.val = (pos t r).val; rw [index10]; show ((grid0.coords t) 2).val * 128 + 1 * r.val = 128 * ((grid0.coords t) 2).val + r.val; omega

/-- A point writes back its block of the codes with the first bias. -/
theorem flushed10_eq (c : Dev nD) (t : Fin cfg0.N) :
    (dats m 0 c).flushed 10 t = ((cfg0.win 10).blk t).view.read (Elt Ideal) (codesArr m c (au m c)) := by
  show (cfg0.win 10).cut (grid0.coords t) ((dats m 0 c).after 10 t) = _
  rw [after0_10]
  funext j
  obtain ⟨z, h, d, r, rfl⟩ : ∃ z h d r, j = (ix4 z h d r : S1x4x160x128.Idx) := ⟨j 0, j 1, j 2, j 3, eq_ix4 (n0 := 1) (n1 := 4) (n2 := 160) (n3 := 128) j⟩
  show Row.codeBuilt (rowq (iblk m c 5 t) (iblk m c 3 t) h r) d = codesArr m c (au m c) (((cfg0.win 10).blk t).view.emb (ix4 z h d r : S1x4x160x128.Idx))
  rw [emb10, rowq_u]
  rfl

/-- Every entry of the codes with the first bias is in some point's block. -/
theorem cover10 (y : S2x8x160x1024.Idx) : ∃ t : Fin cfg0.N, (cfg0.win 10).flush t = true ∧ y ∈ ((cfg0.win 10).blk t).view.set := by
  suffices key : ∀ (n : Fin 2) (k : Fin 8) (d : Fin 160) (i : Fin 1024), ∃ t : Fin cfg0.N, (cfg0.win 10).flush t = true ∧ (ix4 n k d i: S2x8x160x1024.Idx) ∈ ((cfg0.win 10).blk t).view.set by
    rw [eq_ix4 (n0 := 2) (n1 := 8) (n2 := 160) (n3 := 1024) y]
    exact key _ _ _ _
  intro n k d i
  refine ⟨pt n ⟨k.val / 4, by omega⟩ ⟨i.val / 128, by omega⟩, flush0_10 _, ?_⟩
  have h := ((cfg0.win 10).blk (pt n ⟨k.val / 4, by omega⟩ ⟨i.val / 128, by omega⟩)).view.emb_mem_set
    (ix4 (0 : Fin 1) (⟨k.val % 4, Nat.mod_lt _ (by norm_num)⟩ : Fin 4) d (⟨i.val % 128, Nat.mod_lt _ (by norm_num)⟩ : Fin 128) : S1x4x160x128.Idx)
  rw [emb10] at h
  obtain ⟨h0, h1, h2⟩ := pt_coords n ⟨k.val / 4, by omega⟩ ⟨i.val / 128, by omega⟩
  refine (congrArg (· ∈ _) ?_).mp h
  funext a; apply Fin.ext
  match a with
  | ⟨0, _⟩ => exact h0
  | ⟨1, _⟩ =>
    have e : ((grid0.coords (pt n ⟨k.val / 4, by omega⟩ ⟨i.val / 128, by omega⟩)) 1).val = k.val / 4 := h1
    show 4 * ((grid0.coords (pt n ⟨k.val / 4, by omega⟩ ⟨i.val / 128, by omega⟩)) 1).val + k.val % 4 = k.val
    omega
  | ⟨2, _⟩ => rfl
  | ⟨3, _⟩ =>
    have e : ((grid0.coords (pt n ⟨k.val / 4, by omega⟩ ⟨i.val / 128, by omega⟩)) 2).val = i.val / 128 := h2
    show 128 * ((grid0.coords (pt n ⟨k.val / 4, by omega⟩ ⟨i.val / 128, by omega⟩)) 2).val + i.val % 128 = i.val
    omega

/-- After the run the array holds the codes with the first bias. -/
theorem final10 (c : Dev nD) : (dats m 0 c).arrAt 10 cfg0.N = codesArr m c (au m c) :=
  (dats m 0 c).arrAt_eq_of_cover 10 (codesArr m c (au m c)) (fun t _ => flushed10_eq m c t) cover10

/-! ## The scales of the queries biased by `u` -/

/-- Where an entry of a point's block lies in the array of the scales with the first bias. -/
theorem emb11 (t : Fin cfg0.N) (z z' : Fin 1) (h : Fin 4) (r : Fin 128) :
    ((cfg0.win 11).blk t).view.emb (ix4 z z' h r : S1x1x4x128.Idx) = (ix4 (bat t) ((grid0.coords t) 1 : Fin 2) h (pos t r) : S2x2x4x1024.Idx) := by
  have hz : z.val = 0 := by omega
  have hz' : z'.val = 0 := by omega
  funext a; apply Fin.ext
  match a with
  | ⟨0, _⟩ => show win0_11.index t 0 * 1 + 1 * z.val = ((grid0.coords t) 0).val; rw [index11]; show ((grid0.coords t) 0).val * 1 + 1 * z.val = _; omega
  | ⟨1, _⟩ => show win0_11.index t 1 * 1 + 1 * z'.val = ((grid0.coords t) 1).val; rw [index11]; show ((grid0.coords t) 1).val * 1 + 1 * z'.val = _; omega
  | ⟨2, _⟩ => show win0_11.index t 2 * 4 + 1 * h.val = h.val; rw [index11]; show 0 * 4 + 1 * h.val = h.val; omega
  | ⟨3, _⟩ => show win0_11.index t 3 * 128 + 1 * r.val = (pos t r).val; rw [index11]; show ((grid0.coords t) 2).val * 128 + 1 * r.val = 128 * ((grid0.coords t) 2).val + r.val; omega

/-- A point writes back its block of the scales with the first bias. -/
theorem flushed11_eq (c : Dev nD) (t : Fin cfg0.N) :
    (dats m 0 c).flushed 11 t = ((cfg0.win 11).blk t).view.read (Elt Ideal) (scalesArr m c (au m c)) := by
  show (cfg0.win 11).cut (grid0.coords t) ((dats m 0 c).after 11 t) = _
  rw [after0_11]
  funext j
  obtain ⟨z, z', h, r, rfl⟩ : ∃ z z' h r, j = (ix4 z z' h r : S1x1x4x128.Idx) := ⟨j 0, j 1, j 2, j 3, eq_ix4 (n0 := 1) (n1 := 1) (n2 := 4) (n3 := 128) j⟩
  show Row.scaleBuilt (rowq (iblk m c 5 t) (iblk m c 3 t) h r) = scalesArr m c (au m c) (((cfg0.win 11).blk t).view.emb (ix4 z z' h r : S1x1x4x128.Idx))
  rw [emb11, rowq_u]
  rfl

/-- Every entry of the scales with the first bias is in some point's block. -/
theorem cover11 (y : S2x2x4x1024.Idx) : ∃ t : Fin cfg0.N, (cfg0.win 11).flush t = true ∧ y ∈ ((cfg0.win 11).blk t).view.set := by
  suffices key : ∀ (n : Fin 2) (g : Fin 2) (k : Fin 4) (i : Fin 1024), ∃ t : Fin cfg0.N, (cfg0.win 11).flush t = true ∧ (ix4 n g k i: S2x2x4x1024.Idx) ∈ ((cfg0.win 11).blk t).view.set by
    rw [eq_ix4 (n0 := 2) (n1 := 2) (n2 := 4) (n3 := 1024) y]
    exact key _ _ _ _
  intro n g k i
  refine ⟨pt n g ⟨i.val / 128, by omega⟩, flush0_11 _, ?_⟩
  have h := ((cfg0.win 11).blk (pt n g ⟨i.val / 128, by omega⟩)).view.emb_mem_set
    (ix4 (0 : Fin 1) (0 : Fin 1) k (⟨i.val % 128, Nat.mod_lt _ (by norm_num)⟩ : Fin 128) : S1x1x4x128.Idx)
  rw [emb11] at h
  obtain ⟨h0, h1, h2⟩ := pt_coords n g ⟨i.val / 128, by omega⟩
  refine (congrArg (· ∈ _) ?_).mp h
  funext a; apply Fin.ext
  match a with
  | ⟨0, _⟩ => exact h0
  | ⟨1, _⟩ => exact h1
  | ⟨2, _⟩ => rfl
  | ⟨3, _⟩ =>
    have e : ((grid0.coords (pt n g ⟨i.val / 128, by omega⟩)) 2).val = i.val / 128 := h2
    show 128 * ((grid0.coords (pt n g ⟨i.val / 128, by omega⟩)) 2).val + i.val % 128 = i.val
    omega

/-- After the run the array holds the scales with the first bias. -/
theorem final11 (c : Dev nD) : (dats m 0 c).arrAt 11 cfg0.N = scalesArr m c (au m c) :=
  (dats m 0 c).arrAt_eq_of_cover 11 (scalesArr m c (au m c)) (fun t _ => flushed11_eq m c t) cover11

/-! ## The codes of the queries biased by `v` -/

/-- Where an entry of a point's block lies in the array of the codes with the second bias. -/
theorem emb12 (t : Fin cfg0.N) (z : Fin 1) (h : Fin 4) (d : Fin 160) (r : Fin 128) :
    ((cfg0.win 12).blk t).view.emb (ix4 z h d r : S1x4x160x128.Idx) = (ix4 (bat t) (hd t h) d (pos t r) : S2x8x160x1024.Idx) := by
  have hz : z.val = 0 := by omega
  funext a; apply Fin.ext
  match a with
  | ⟨0, _⟩ => show win0_12.index t 0 * 1 + 1 * z.val = ((grid0.coords t) 0).val; rw [index12]; show ((grid0.coords t) 0).val * 1 + 1 * z.val = _; omega
  | ⟨1, _⟩ => show win0_12.index t 1 * 4 + 1 * h.val = (hd t h).val; rw [index12]; show ((grid0.coords t) 1).val * 4 + 1 * h.val = 4 * ((grid0.coords t) 1).val + h.val; omega
  | ⟨2, _⟩ => show win0_12.index t 2 * 160 + 1 * d.val = d.val; rw [index12]; show 0 * 160 + 1 * d.val = d.val; omega
  | ⟨3, _⟩ => show win0_12.index t 3 * 128 + 1 * r.val = (pos t r).val; rw [index12]; show ((grid0.coords t) 2).val * 128 + 1 * r.val = 128 * ((grid0.coords t) 2).val + r.val; omega

/-- A point writes back its block of the codes with the second bias. -/
theorem flushed12_eq (c : Dev nD) (t : Fin cfg0.N) :
    (dats m 0 c).flushed 12 t = ((cfg0.win 12).blk t).view.read (Elt Ideal) (codesArr m c (av m c)) := by
  show (cfg0.win 12).cut (grid0.coords t) ((dats m 0 c).after 12 t) = _
  rw [after0_12]
  funext j
  obtain ⟨z, h, d, r, rfl⟩ : ∃ z h d r, j = (ix4 z h d r : S1x4x160x128.Idx) := ⟨j 0, j 1, j 2, j 3, eq_ix4 (n0 := 1) (n1 := 4) (n2 := 160) (n3 := 128) j⟩
  show Row.codeBuilt (rowq (iblk m c 5 t) (iblk m c 4 t) h r) d = codesArr m c (av m c) (((cfg0.win 12).blk t).view.emb (ix4 z h d r : S1x4x160x128.Idx))
  rw [emb12, rowq_v]
  rfl

/-- Every entry of the codes with the second bias is in some point's block. -/
theorem cover12 (y : S2x8x160x1024.Idx) : ∃ t : Fin cfg0.N, (cfg0.win 12).flush t = true ∧ y ∈ ((cfg0.win 12).blk t).view.set := by
  suffices key : ∀ (n : Fin 2) (k : Fin 8) (d : Fin 160) (i : Fin 1024), ∃ t : Fin cfg0.N, (cfg0.win 12).flush t = true ∧ (ix4 n k d i: S2x8x160x1024.Idx) ∈ ((cfg0.win 12).blk t).view.set by
    rw [eq_ix4 (n0 := 2) (n1 := 8) (n2 := 160) (n3 := 1024) y]
    exact key _ _ _ _
  intro n k d i
  refine ⟨pt n ⟨k.val / 4, by omega⟩ ⟨i.val / 128, by omega⟩, flush0_12 _, ?_⟩
  have h := ((cfg0.win 12).blk (pt n ⟨k.val / 4, by omega⟩ ⟨i.val / 128, by omega⟩)).view.emb_mem_set
    (ix4 (0 : Fin 1) (⟨k.val % 4, Nat.mod_lt _ (by norm_num)⟩ : Fin 4) d (⟨i.val % 128, Nat.mod_lt _ (by norm_num)⟩ : Fin 128) : S1x4x160x128.Idx)
  rw [emb12] at h
  obtain ⟨h0, h1, h2⟩ := pt_coords n ⟨k.val / 4, by omega⟩ ⟨i.val / 128, by omega⟩
  refine (congrArg (· ∈ _) ?_).mp h
  funext a; apply Fin.ext
  match a with
  | ⟨0, _⟩ => exact h0
  | ⟨1, _⟩ =>
    have e : ((grid0.coords (pt n ⟨k.val / 4, by omega⟩ ⟨i.val / 128, by omega⟩)) 1).val = k.val / 4 := h1
    show 4 * ((grid0.coords (pt n ⟨k.val / 4, by omega⟩ ⟨i.val / 128, by omega⟩)) 1).val + k.val % 4 = k.val
    omega
  | ⟨2, _⟩ => rfl
  | ⟨3, _⟩ =>
    have e : ((grid0.coords (pt n ⟨k.val / 4, by omega⟩ ⟨i.val / 128, by omega⟩)) 2).val = i.val / 128 := h2
    show 128 * ((grid0.coords (pt n ⟨k.val / 4, by omega⟩ ⟨i.val / 128, by omega⟩)) 2).val + i.val % 128 = i.val
    omega

/-- After the run the array holds the codes with the second bias. -/
theorem final12 (c : Dev nD) : (dats m 0 c).arrAt 12 cfg0.N = codesArr m c (av m c) :=
  (dats m 0 c).arrAt_eq_of_cover 12 (codesArr m c (av m c)) (fun t _ => flushed12_eq m c t) cover12

/-! ## The scales of the queries biased by `v` -/

/-- Where an entry of a point's block lies in the array of the scales with the second bias. -/
theorem emb13 (t : Fin cfg0.N) (z z' : Fin 1) (h : Fin 4) (r : Fin 128) :
    ((cfg0.win 13).blk t).view.emb (ix4 z z' h r : S1x1x4x128.Idx) = (ix4 (bat t) ((grid0.coords t) 1 : Fin 2) h (pos t r) : S2x2x4x1024.Idx) := by
  have hz : z.val = 0 := by omega
  have hz' : z'.val = 0 := by omega
  funext a; apply Fin.ext
  match a with
  | ⟨0, _⟩ => show win0_13.index t 0 * 1 + 1 * z.val = ((grid0.coords t) 0).val; rw [index13]; show ((grid0.coords t) 0).val * 1 + 1 * z.val = _; omega
  | ⟨1, _⟩ => show win0_13.index t 1 * 1 + 1 * z'.val = ((grid0.coords t) 1).val; rw [index13]; show ((grid0.coords t) 1).val * 1 + 1 * z'.val = _; omega
  | ⟨2, _⟩ => show win0_13.index t 2 * 4 + 1 * h.val = h.val; rw [index13]; show 0 * 4 + 1 * h.val = h.val; omega
  | ⟨3, _⟩ => show win0_13.index t 3 * 128 + 1 * r.val = (pos t r).val; rw [index13]; show ((grid0.coords t) 2).val * 128 + 1 * r.val = 128 * ((grid0.coords t) 2).val + r.val; omega

/-- A point writes back its block of the scales with the second bias. -/
theorem flushed13_eq (c : Dev nD) (t : Fin cfg0.N) :
    (dats m 0 c).flushed 13 t = ((cfg0.win 13).blk t).view.read (Elt Ideal) (scalesArr m c (av m c)) := by
  show (cfg0.win 13).cut (grid0.coords t) ((dats m 0 c).after 13 t) = _
  rw [after0_13]
  funext j
  obtain ⟨z, z', h, r, rfl⟩ : ∃ z z' h r, j = (ix4 z z' h r : S1x1x4x128.Idx) := ⟨j 0, j 1, j 2, j 3, eq_ix4 (n0 := 1) (n1 := 1) (n2 := 4) (n3 := 128) j⟩
  show Row.scaleBuilt (rowq (iblk m c 5 t) (iblk m c 4 t) h r) = scalesArr m c (av m c) (((cfg0.win 13).blk t).view.emb (ix4 z z' h r : S1x1x4x128.Idx))
  rw [emb13, rowq_v]
  rfl

/-- Every entry of the scales with the second bias is in some point's block. -/
theorem cover13 (y : S2x2x4x1024.Idx) : ∃ t : Fin cfg0.N, (cfg0.win 13).flush t = true ∧ y ∈ ((cfg0.win 13).blk t).view.set := by
  suffices key : ∀ (n : Fin 2) (g : Fin 2) (k : Fin 4) (i : Fin 1024), ∃ t : Fin cfg0.N, (cfg0.win 13).flush t = true ∧ (ix4 n g k i: S2x2x4x1024.Idx) ∈ ((cfg0.win 13).blk t).view.set by
    rw [eq_ix4 (n0 := 2) (n1 := 2) (n2 := 4) (n3 := 1024) y]
    exact key _ _ _ _
  intro n g k i
  refine ⟨pt n g ⟨i.val / 128, by omega⟩, flush0_13 _, ?_⟩
  have h := ((cfg0.win 13).blk (pt n g ⟨i.val / 128, by omega⟩)).view.emb_mem_set
    (ix4 (0 : Fin 1) (0 : Fin 1) k (⟨i.val % 128, Nat.mod_lt _ (by norm_num)⟩ : Fin 128) : S1x1x4x128.Idx)
  rw [emb13] at h
  obtain ⟨h0, h1, h2⟩ := pt_coords n g ⟨i.val / 128, by omega⟩
  refine (congrArg (· ∈ _) ?_).mp h
  funext a; apply Fin.ext
  match a with
  | ⟨0, _⟩ => exact h0
  | ⟨1, _⟩ => exact h1
  | ⟨2, _⟩ => rfl
  | ⟨3, _⟩ =>
    have e : ((grid0.coords (pt n g ⟨i.val / 128, by omega⟩)) 2).val = i.val / 128 := h2
    show 128 * ((grid0.coords (pt n g ⟨i.val / 128, by omega⟩)) 2).val + i.val % 128 = i.val
    omega

/-- After the run the array holds the scales with the second bias. -/
theorem final13 (c : Dev nD) : (dats m 0 c).arrAt 13 cfg0.N = scalesArr m c (av m c) :=
  (dats m 0 c).arrAt_eq_of_cover 13 (scalesArr m c (av m c)) (fun t _ => flushed13_eq m c t) cover13

/-! ## The results computed after the region -/

/-- The codes, in the query's layout. -/
def codesRes (c : Dev nD) (b : Fin 8 → Fin 160 → EReal) : Vec Ideal S2x1024x8x160 .fp8e4m3 := fun y =>
  Row.codeBuilt (Spec.row (aq m c) b (y 0) (y 1) (y 2)) (y 3)
/-- The scales, one per batch, position and head. -/
def scalesRes (c : Dev nD) (b : Fin 8 → Fin 160 → EReal) : Vec Ideal S2x1024x8 .f32 := fun y =>
  Row.scaleBuilt (Spec.row (aq m c) b (y 0) (y 1) (y 2))

/-- Different windows have different arrays. -/
theorem arr_inj : Function.Injective (Pipeline.arrRef spec0) := by decide

/-- What the region leaves in the array of window `w`. -/
theorem exit_arr (c : Dev nD) (w : Fin 14) : Pipeline.withArrays spec0 c (V0 m c) (fun w => (dats m 0 c).arrAt w cfg0.N) (Proc.devRef .tc (Pipeline.arrRef spec0 w))
    = (dats m 0 c).arrAt w cfg0.N := Pipeline.withArrays_arr spec0 arr_inj c _ _ w

/-- Codes `[2, 8, 160, 1024]` transposed to the query's layout. -/
theorem codes_transposed (c : Dev nD) (b : Fin 8 → Fin 160 → EReal) :
    transpose S2x1024x8x160 [0, 3, 1, 2] (codesArr m c b) transposes_S2x8x160x1024_S2x1024x8x160_0_3_1_2 = codesRes m c b := by
  funext y
  obtain ⟨n, i, h, d, rfl⟩ : ∃ n i h d, y = (ix4 n i h d : S2x1024x8x160.Idx) := ⟨y 0, y 1, y 2, y 3, eq_ix4 (n0 := 2) (n1 := 1024) (n2 := 8) (n3 := 160) y⟩
  have e : ∀ X : Vec Ideal S2x8x160x1024 .fp8e4m3, transpose S2x1024x8x160 [0, 3, 1, 2] X transposes_S2x8x160x1024_S2x1024x8x160_0_3_1_2 (ix4 n i h d) = X (ix4 n h d i) := by
    intro X
    pointwise
  exact e _
/-- Scales `[2, 2, 4, 1024]` reshaped and transposed to the query's layout. -/
theorem scales_transposed (c : Dev nD) (b : Fin 8 → Fin 160 → EReal) :
    transpose S2x1024x8 [0, 2, 1] (shapeCast S2x8x1024 (scalesArr m c b) shapeCasts_S2x2x4x1024_S2x8x1024) transposes_S2x8x1024_S2x1024x8_0_2_1 = scalesRes m c b := by
  funext y
  obtain ⟨n, i, h, rfl⟩ : ∃ n i h, y = (ix3 n i h : S2x1024x8.Idx) := ⟨y 0, y 1, y 2, eq_ix3 (n0 := 2) (n1 := 1024) (n2 := 8) y⟩
  have e : ∀ X : Vec Ideal S2x8x1024 .f32, transpose S2x1024x8 [0, 2, 1] X transposes_S2x8x1024_S2x1024x8_0_2_1 (ix3 n i h) = X (ix3 n h i) := by
    intro X
    pointwise
  refine (e _).trans ((shapeCast_apply _ shapeCasts_S2x2x4x1024_S2x8x1024 (ix3 n h i)
    (ix4 n (⟨h.val / 4, by omega⟩ : Fin 2) (⟨h.val % 4, Nat.mod_lt _ (by norm_num)⟩ : Fin 4) i) ?_).trans ?_)
  · rw [Shape.rowMajor_val_four, Shape.rowMajor_val_three]
    show ((n.val * 2 + h.val / 4) * 4 + h.val % 4) * 1024 + i.val = (n.val * 8 + h.val) * 1024 + i.val
    omega
  · exact congrArg (fun k => Row.scaleBuilt (Spec.row (aq m c) b n i k)) (Fin.ext (by show 4 * (h.val / 4) + h.val % 4 = h.val; omega))

/-- After the operations that follow the call, the result holds the codes with the first bias. -/
theorem tail_v8 (c : Dev nD) : Pipeline.afterTail₀ cfgs (dats m) 0 (V0 m) [hostOps1] c main_v8 = codesRes m c (au m c) := by
  refine Eq.trans ?_ (codes_transposed m c (au m c))
  rw [← final10 m c, ← exit_arr m c 10]
  show StableHlo.after hostOps1 _ (Proc.devRef .tc main_v8) = _
  after_results
/-- After the operations that follow the call, the result holds the scales with the first bias. -/
theorem tail_v10 (c : Dev nD) : Pipeline.afterTail₀ cfgs (dats m) 0 (V0 m) [hostOps1] c main_v10 = scalesRes m c (au m c) := by
  refine Eq.trans ?_ (scales_transposed m c (au m c))
  rw [← final11 m c, ← exit_arr m c 11]
  show StableHlo.after hostOps1 _ (Proc.devRef .tc main_v10) = _
  after_results
  rfl
/-- After the operations that follow the call, the result holds the codes with the second bias. -/
theorem tail_v11 (c : Dev nD) : Pipeline.afterTail₀ cfgs (dats m) 0 (V0 m) [hostOps1] c main_v11 = codesRes m c (av m c) := by
  refine Eq.trans ?_ (codes_transposed m c (av m c))
  rw [← final12 m c, ← exit_arr m c 12]
  show StableHlo.after hostOps1 _ (Proc.devRef .tc main_v11) = _
  after_results
/-- After the operations that follow the call, the result holds the scales with the second bias. -/
theorem tail_v13 (c : Dev nD) : Pipeline.afterTail₀ cfgs (dats m) 0 (V0 m) [hostOps1] c main_v13 = scalesRes m c (av m c) := by
  refine Eq.trans ?_ (scales_transposed m c (av m c))
  rw [← final13 m c, ← exit_arr m c 13]
  show StableHlo.after hostOps1 _ (Proc.devRef .tc main_v13) = _
  after_results
  rfl

/-- The idealized kernel runs, leaves its five results and keeps its arguments. -/
theorem run : θ_run defs (onTc (τ := τ) (main (F := Ideal))) ⟨m, fun _ => 0, ρ⟩ (fun r => ∀ c : Dev nD,
      r.2.mem ((c.tc : Thread nD τ).loc main_v7_0) = outArr m c
      ∧ r.2.mem ((c.tc : Thread nD τ).loc main_v8) = codesRes m c (au m c)
      ∧ r.2.mem ((c.tc : Thread nD τ).loc main_v10) = scalesRes m c (au m c)
      ∧ r.2.mem ((c.tc : Thread nD τ).loc main_v11) = codesRes m c (av m c)
      ∧ r.2.mem ((c.tc : Thread nD τ).loc main_v13) = scalesRes m c (av m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 9).trans (final9 m c),
      ((h c).2 main_v8 (Pipeline.mem_restRefs_of main_v8 (by decide) (by decide))).trans (tail_v8 m c),
      ((h c).2 main_v10 (Pipeline.mem_restRefs_of main_v10 (by decide) (by decide))).trans (tail_v10 m c),
      ((h c).2 main_v11 (Pipeline.mem_restRefs_of main_v11 (by decide) (by decide))).trans (tail_v11 m c),
      ((h c).2 main_v13 (Pipeline.mem_restRefs_of main_v13 (by decide) (by decide))).trans (tail_v13 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.Value

end
-- ==== Proof.RefPoint.lean ====
/- Elementwise operations at the extended reals, entry by entry. -/
module

public import proofs.«01_k».proof.Proof.Gen.ReferenceIdeal.Value
public import proofs.«01_k».proof.Proof.Spec
public import Idealize.ShloMosaic.Lib.Pointwise
public import Idealize.ShloMosaic.PureOps.Ideal.Laws

@[expose] public section

set_option maxRecDepth 16384

noncomputable section

namespace Cert.ReferenceIdeal.Row

open Cert.ReferenceIdeal Cert.ReferenceIdeal.Gen
open Idealize.ShloMosaic Idealize.ShloMosaic.TcCoe Idealize.ShloMosaic.Pointwise Idealize.ShloMosaic.Tactic

/-- Operations that act on each entry alone. -/
theorem exp2_at {s : Shape} (x : FVec Ideal s .f32) (k : s.Idx) : exp2 x k = Ideal.exp2 (x k) := rfl
/-- The exponential, at an entry. -/
theorem exp_at {s : Shape} (x : FVec Ideal s .f32) (k : s.Idx) : exp x k = Ideal.exp (x k) := rfl
/-- A quotient, at an entry. -/
theorem divf_at {s : Shape} (x y : FVec Ideal s .f32) (k : s.Idx) : divf x y k = Ideal.div (x k) (y k) := rfl
/-- A product, at an entry. -/
theorem mulf_at {s : Shape} (x y : FVec Ideal s .f32) (k : s.Idx) : mulf x y k = x k * y k := rfl
/-- A difference, at an entry. -/
theorem subf_at {s : Shape} (x y : FVec Ideal s .f32) (k : s.Idx) : subf x y k = x k - y k := rfl
/-- A minimum, at an entry. -/
theorem minimumf_at {s : Shape} (x y : FVec Ideal s .f32) (k : s.Idx) : minimumf x y k = min (x k) (y k) := rfl
/-- A maximum, at an entry. -/
theorem maximumf_at {s : Shape} (x y : FVec Ideal s .f32) (k : s.Idx) : maximumf x y k = max (x k) (y k) := rfl
/-- A repeated number, at an entry. -/
theorem splat_at {s : Shape} (b : Ideal .f32) (k : s.Idx) : broadcast s b k = b := rfl
/-- The logarithm, at an entry. -/
theorem log_at {s : Shape} (x : FVec Ideal s .f32) (k : s.Idx) : log x k = Ideal.log (x k) := rfl
/-- The floor, at an entry. -/
theorem floor_at {s : Shape} (x : FVec Ideal s .f32) (k : s.Idx) : floor x k = Ideal.liftRound Int.floor (x k) := rfl
/-- The comparison, at an entry. -/
theorem less_at {s : Shape} (x y : FVec Ideal s .f32) (k : s.Idx) : cmpf .olt x y k = Ideal.cmp .olt (x k) (y k) := rfl
/-- A choice, at an entry. -/
theorem select_at {s : Shape} (c : IVec s 1) (x y : FVec Ideal s .f32) (k : s.Idx) : select c x y k = Scalar.select (c k) (x k) (y k) := rfl
/-- A constant is the number that its bits denote. -/
theorem bits (b : BitVec 32) : FloatOps.ofBits (F := Ideal) .f32 b = Ideal.ofBits .f32 b := rfl
/-- The named constant is the logarithm of two. -/
theorem ln2 : (Named.named (F := Ideal) κ "ln2" 0x3F317218#32 : Ideal .f32) = ((Real.log 2 : ℝ) : EReal) := rfl
/-- A sum, at an entry. -/
theorem addf_at {s : Shape} (x y : FVec Ideal s .f32) (k : s.Idx) : addf x y k = x k + y k := rfl

end Cert.ReferenceIdeal.Row

end
-- ==== Proof.RefQuant.lean ====
/- The reference's codes and scales at the extended reals, entry by entry. -/
module

public import proofs.«01_k».proof.Proof.Gen.ReferenceIdeal.Value
public import proofs.«01_k».proof.Proof.RefPoint
public import Idealize.ShloMosaic.Lib.Pointwise
public import Idealize.ShloMosaic.PureOps.Ideal.Laws

@[expose] public section

set_option maxRecDepth 16384

noncomputable section

namespace Cert.ReferenceIdeal.Row

open Cert.ReferenceIdeal Cert.ReferenceIdeal.Gen
open Idealize.ShloMosaic Idealize.ShloMosaic.TcCoe Idealize.ShloMosaic.Pointwise Idealize.ShloMosaic.Tactic

/-! ## The quantiser -/

/-- The biased query. -/
abbrev rowOf (q : Vec Ideal S2x1024x8x160 .bf16) (b : Vec Ideal S8x160 .f32) (n : Fin 2) (i : Fin 1024) (h : Fin 8) : Fin 160 → EReal :=
  Spec.row (fun n i h d => q (ix4 n i h d)) (fun h d => b (ix2 h d)) n i h

/-- A biased query's entry. -/
theorem biased_apply (q : Vec Ideal S2x1024x8x160 .bf16) (b : Vec Ideal S8x160 .f32) (n : Fin 2) (i : Fin 1024) (h : Fin 8) (d : Fin 160) :
    k0_pay3 (F := Ideal) q b (ix4 n i h d) = rowOf q b n i h d := by
  pointwise [k0_pay3, k0_pay2]
  rfl

/-- The largest magnitude of a row. -/
theorem most_apply (x : FVec Ideal S2x1024x8x160 .f32) (n : Fin 2) (i : Fin 1024) (h : Fin 8) :
    multiReduction .maximumf [3] S2x1024x8 (absf x) 0xFF800000#32 reduces_S2x1024x8x160_S2x1024x8 (.inl rfl) rfl (ix3 n i h)
      = Softmax.most (fun d : Fin 160 => max (x (ix4 n i h d)) (-x (ix4 n i h d))) := by
  pointwise
  rw [Scalars.ofBits_bot]
  rfl

/-- A last axis of length one added to one number per row. -/
theorem unit_added (y : FVec Ideal S2x1024x8 .f32) (n : Fin 2) (i : Fin 1024) (h : Fin 8) :
    shapeCast S2x1024x8x1 y shapeCasts_S2x1024x8_S2x1024x8x1 (ix4 n i h 0) = y (ix3 n i h) := by
  refine shapeCast_apply _ _ (ix4 n i h 0) (ix3 n i h) ?_
  rw [Shape.rowMajor_val_three, Shape.rowMajor_val_four]
  show (n.val * 1024 + i.val) * 8 + h.val = ((n.val * 1024 + i.val) * 8 + h.val) * 1 + 0
  omega

/-- A last axis of length one dropped. -/
theorem unit_dropped (y : FVec Ideal S2x1024x8x1 .f32) (n : Fin 2) (i : Fin 1024) (h : Fin 8) :
    shapeCast S2x1024x8 y shapeCasts_S2x1024x8x1_S2x1024x8 (ix3 n i h) = y (ix4 n i h 0) := by
  refine shapeCast_apply _ _ (ix3 n i h) (ix4 n i h 0) ?_
  rw [Shape.rowMajor_val_three, Shape.rowMajor_val_four]
  show ((n.val * 1024 + i.val) * 8 + h.val) * 1 + 0 = (n.val * 1024 + i.val) * 8 + h.val
  omega

/-- One number per row, repeated along the row. -/
theorem repeated (y : FVec Ideal S2x1024x8x1 .f32) (n : Fin 2) (i : Fin 1024) (h : Fin 8) (d : Fin 160) :
    broadcastTo S2x1024x8x160 y broadcasts_S2x1024x8x1_S2x1024x8x160 (ix4 n i h d) = y (ix4 n i h 0) := by
  refine broadcastTo_apply _ _ (ix4 n i h d) (ix4 n i h 0) fun a => ?_
  match a with
  | ⟨0, _⟩ => rfl
  | ⟨1, _⟩ => rfl
  | ⟨2, _⟩ => rfl
  | ⟨3, _⟩ => rfl

/-- The exponent of a row. -/
theorem exponent_apply (q : Vec Ideal S2x1024x8x160 .bf16) (b : Vec Ideal S8x160 .f32) (n : Fin 2) (i : Fin 1024) (h : Fin 8) :
    k0_pay4 (F := Ideal) q b (ix4 n i h 0) = Scalars.exponent (Cert.Row.ratio (rowOf q b n i h)) := by
  have e : multiReduction .maximumf [3] S2x1024x8 (absf (k0_pay3 (F := Ideal) q b)) 0xFF800000#32 reduces_S2x1024x8x160_S2x1024x8 (.inl rfl) rfl (ix3 n i h)
      = Softmax.most (fun d : Fin 160 => max (rowOf q b n i h d) (-rowOf q b n i h d)) := by
    rw [most_apply]
    simp only [biased_apply]
  unfold Cert.Row.ratio
  rw [← e]
  unfold k0_pay4
  generalize multiReduction .maximumf [3] S2x1024x8 (absf (k0_pay3 (F := Ideal) q b)) 0xFF800000#32 reduces_S2x1024x8x160_S2x1024x8 (.inl rfl) rfl = y
  rw [← unit_added y n i h]
  generalize shapeCast S2x1024x8x1 y shapeCasts_S2x1024x8_S2x1024x8x1 = z
  generalize (ix4 n i h (0 : Fin 1) : S2x1024x8x1.Idx) = k
  unfold Scalars.exponent
  refine (select_at _ _ _ _).trans ?_
  rw [less_at, addf_at, floor_at, divf_at, log_at, mulf_at]
  simp only [splat_at]
  rw [ln2, bits, bits, bits, bits]

/-- The code of an entry. -/
theorem code_apply (q : Vec Ideal S2x1024x8x160 .bf16) (b : Vec Ideal S8x160 .f32) (n : Fin 2) (i : Fin 1024) (h : Fin 8) (d : Fin 160) :
    k0_pay5 (F := Ideal) q b (ix4 n i h d) = Cert.Row.code (rowOf q b n i h) d := by
  unfold Cert.Row.code Cert.Row.clip
  rw [← exponent_apply, ← biased_apply]
  unfold k0_pay5
  generalize k0_pay4 (F := Ideal) q b = e
  generalize k0_pay3 (F := Ideal) q b = x
  have r := repeated (exp2 (subf (broadcast S2x1024x8x1 (Scalar.ofBits .f32 0x00000000#32)) e)) n i h d
  refine (minimumf_at _ _ _).trans (congrArg (min _) ((maximumf_at _ _ _).trans (congrArg (max _) ((mulf_at _ _ _).trans (congrArg (x (ix4 n i h d) * ·) (r.trans ?_))))))
  exact (exp2_at _ _).trans (congrArg Ideal.exp2 (subf_at _ _ _))

/-- The scale of a row. -/
theorem scale_apply (q : Vec Ideal S2x1024x8x160 .bf16) (b : Vec Ideal S8x160 .f32) (n : Fin 2) (i : Fin 1024) (h : Fin 8) :
    k0_pay6 (F := Ideal) q b (ix3 n i h) = Cert.Row.scale (rowOf q b n i h) := by
  unfold Cert.Row.scale
  rw [← exponent_apply]
  unfold k0_pay6
  generalize k0_pay4 (F := Ideal) q b = e
  exact (unit_dropped (exp2 e) n i h).trans (exp2_at _ _)

end Cert.ReferenceIdeal.Row

end
-- ==== Proof.RefJoin.lean ====
/- The reference's joined batch and head axis and its shift of relative positions, entry by entry. -/
module

public import proofs.«01_k».proof.Proof.RefPoint
public import Idealize.ShloMosaic.Lib.Pointwise
public import Idealize.ShloMosaic.PureOps.Ideal.Laws

@[expose] public section

set_option maxRecDepth 16384

noncomputable section

namespace Cert.ReferenceIdeal.Row

open Cert.ReferenceIdeal Cert.ReferenceIdeal.Gen
open Idealize.ShloMosaic Idealize.ShloMosaic.TcCoe Idealize.ShloMosaic.Pointwise Idealize.ShloMosaic.Tactic

/-! ## Batch and head as one axis -/

/-- The batch of an entry of the joined axis. -/
abbrev bat (g : Fin 16) : Fin 2 := ⟨g.val / 8, by omega⟩
/-- The head of an entry of the joined axis. -/
abbrev hd (g : Fin 16) : Fin 8 := ⟨g.val % 8, Nat.mod_lt _ (by norm_num)⟩

/-- Codes with batch and head joined. -/
theorem joined_codes (X : Vec Ideal S2x1024x8x160 .fp8e4m3) (g : Fin 16) (i : Fin 1024) (d : Fin 160) :
    shapeCast S16x1024x160 (transpose S2x8x1024x160 [0, 2, 1, 3] X transposes_S2x1024x8x160_p0_2_1_3_S2x8x1024x160) shapeCasts_S2x8x1024x160_S16x1024x160 (ix3 g i d)
      = X (ix4 (bat g) i (hd g) d) := by
  have e : ∀ (n : Fin 2) (h : Fin 8), transpose S2x8x1024x160 [0, 2, 1, 3] X transposes_S2x1024x8x160_p0_2_1_3_S2x8x1024x160 (ix4 n h i d) = X (ix4 n i h d) := by
    intro n h
    pointwise
  refine (shapeCast_apply _ _ (ix3 g i d) (ix4 (bat g) (hd g) i d) ?_).trans (e _ _)
  rw [Shape.rowMajor_val_four, Shape.rowMajor_val_three]
  show ((g.val / 8 * 8 + g.val % 8) * 1024 + i.val) * 160 + d.val = (g.val * 1024 + i.val) * 160 + d.val
  omega

/-- Factors with batch and head joined. -/
theorem joined_factor (X : Vec Ideal S2x8 .f32) (g : Fin 16) : shapeCast S16x1x1 X shapeCasts_S2x8_S16x1x1 (ix3 g 0 0) = X (ix2 (bat g) (hd g)) := by
  refine shapeCast_apply _ _ (ix3 g 0 0) (ix2 (bat g) (hd g)) ?_
  rw [Shape.rowMajor_val_two, Shape.rowMajor_val_three]
  show g.val / 8 * 8 + g.val % 8 = (g.val * 1 + 0) * 1 + 0
  omega

/-- Scales with batch and head joined. -/
theorem joined_scale (X : Vec Ideal S2x1024x8 .f32) (g : Fin 16) (i : Fin 1024) :
    shapeCast S16x1024x1 (transpose S2x8x1024 [0, 2, 1] X transposes_S2x1024x8_p0_2_1_S2x8x1024) shapeCasts_S2x8x1024_S16x1024x1 (ix3 g i 0) = X (ix3 (bat g) i (hd g)) := by
  have e : ∀ (n : Fin 2) (h : Fin 8), transpose S2x8x1024 [0, 2, 1] X transposes_S2x1024x8_p0_2_1_S2x8x1024 (ix3 n h i) = X (ix3 n i h) := by
    intro n h
    pointwise
  refine (shapeCast_apply _ _ (ix3 g i 0) (ix3 (bat g) (hd g) i) ?_).trans (e _ _)
  rw [Shape.rowMajor_val_three, Shape.rowMajor_val_three]
  show (g.val / 8 * 8 + g.val % 8) * 1024 + i.val = (g.val * 1024 + i.val) * 1 + 0
  omega

/-- Position codes, one table per head, for every batch. -/
theorem joined_positions (P : Vec Ideal S2047x8x160 .fp8e4m3) (g : Fin 16) (l : Fin 2047) (d : Fin 160) :
    shapeCast S16x2047x160 (k0_pay13 (F := Ideal) P) shapeCasts_S2x8x2047x160_S16x2047x160 (ix3 g l d) = P (ix3 l (hd g) d) := by
  have e : ∀ (n : Fin 2) (h : Fin 8), k0_pay13 (F := Ideal) P (ix4 n h l d) = P (ix3 l h d) := by
    intro n h
    pointwise [k0_pay13]
  refine (shapeCast_apply _ _ (ix3 g l d) (ix4 (bat g) (hd g) l d) ?_).trans (e _ _)
  rw [Shape.rowMajor_val_four, Shape.rowMajor_val_three]
  show ((g.val / 8 * 8 + g.val % 8) * 2047 + l.val) * 160 + d.val = (g.val * 2047 + l.val) * 160 + d.val
  omega

/-- The position factor, one per head, for every batch. -/
theorem joined_position_factor (X : Vec Ideal S8 .f32) (g : Fin 16) :
    shapeCast S16x1x1 (broadcastTo S2x8 (shapeCast S1x8 (shapeCast S1x8 X shapeCasts_S8_S1x8) shapeCasts_S1x8_S1x8) broadcasts_S1x8_S2x8) shapeCasts_S2x8_S16x1x1 (ix3 g 0 0)
      = X (ix1 (hd g)) := by
  have e : ∀ (n : Fin 2) (h : Fin 8), broadcastTo S2x8 (shapeCast S1x8 (shapeCast S1x8 X shapeCasts_S8_S1x8) shapeCasts_S1x8_S1x8) broadcasts_S1x8_S2x8 (ix2 n h) = X (ix1 h) := by
    intro n h
    pointwise
  exact (joined_factor _ g).trans (e _ _)

/-- The shift that lines relative positions up with keys. -/
theorem shifted_apply (X : FVec Ideal S16x1024x2047 .f32) (g : Fin 16) (i j : Fin 1024) :
    extractStridedSlice S16x1024x1024 ![0, 0, 0] (shapeCast S16x1024x2046 (extractStridedSlice S16x2095104 ![0, 1023]
      (shapeCast S16x2096128 X shapeCasts_S16x1024x2047_S16x2096128) slices_S16x2096128_o0_1023_S16x2095104) shapeCasts_S16x2095104_S16x1024x2046)
      slices_S16x1024x2046_o0_0_0_S16x1024x1024 (ix3 g i j) = X (ix3 g i (Spec.rel i j)) := by
  refine (extractStridedSlice_apply _ _ _ (ix3 g i j) (ix3 g i (⟨j.val, by omega⟩ : Fin 2046)) fun a => ?_).trans ?_
  · match a with
    | ⟨0, _⟩ => show g.val = 0 + g.val; omega
    | ⟨1, _⟩ => show i.val = 0 + i.val; omega
    | ⟨2, _⟩ => show j.val = 0 + j.val; omega
  refine (shapeCast_apply _ _ (ix3 g i (⟨j.val, by omega⟩ : Fin 2046)) (ix2 g (⟨i.val * 2046 + j.val, by omega⟩ : Fin 2095104)) ?_).trans ?_
  · rw [Shape.rowMajor_val_two, Shape.rowMajor_val_three]
    show g.val * 2095104 + (i.val * 2046 + j.val) = (g.val * 1024 + i.val) * 2046 + j.val
    omega
  refine (extractStridedSlice_apply _ _ _ (ix2 g (⟨i.val * 2046 + j.val, by omega⟩ : Fin 2095104)) (ix2 g (⟨1023 + (i.val * 2046 + j.val), by omega⟩ : Fin 2096128)) fun a => ?_).trans ?_
  · match a with
    | ⟨0, _⟩ => show g.val = 0 + g.val; omega
    | ⟨1, _⟩ => rfl
  refine shapeCast_apply _ _ (ix2 g (⟨1023 + (i.val * 2046 + j.val), by omega⟩ : Fin 2096128)) (ix3 g i (Spec.rel i j)) ?_
  rw [Shape.rowMajor_val_two, Shape.rowMajor_val_three]
  show (g.val * 1024 + i.val) * 2047 + (1023 - i.val + j.val) = g.val * 2096128 + (1023 + (i.val * 2046 + j.val))
  omega

end Cert.ReferenceIdeal.Row

end
-- ==== Proof.RefScore.lean ====
/- The reference's scores and weights at the extended reals, entry by entry. -/
module

public import proofs.«01_k».proof.Proof.RefJoin
public import Idealize.ShloMosaic.Lib.Pointwise
public import Idealize.ShloMosaic.PureOps.Ideal.Laws

@[expose] public section

set_option maxRecDepth 16384

noncomputable section

namespace Cert.ReferenceIdeal.Row

open Cert.ReferenceIdeal Cert.ReferenceIdeal.Gen
open Idealize.ShloMosaic Idealize.ShloMosaic.TcCoe Idealize.ShloMosaic.Pointwise Idealize.ShloMosaic.Tactic

/-! ## Attention -/

section
variable {F : FTy → Type} [FloatOps F] [Named F]

/-- The products of codes with the position codes, before the shift. -/
def positionProducts (b : FVec F S16x1024x160 .fp8e4m3) (p : FVec F S16x2047x160 .fp8e4m3) : FVec F S16x1024x2047 .f32 :=
  matmul dot_S16x1024x160_S16x2047x160_S16x1024x2047_2_2_1_1_0_0 none b p (constant S16x1024x2047 .f32 0x00000000#32)

/-- The shift that lines relative positions up with keys. -/
def shift (X : FVec F S16x1024x2047 .f32) : FVec F S16x1024x1024 .f32 :=
  extractStridedSlice S16x1024x1024 ![0, 0, 0] (shapeCast S16x1024x2046 (extractStridedSlice S16x2095104 ![0, 1023]
      (shapeCast S16x2096128 X shapeCasts_S16x1024x2047_S16x2096128) slices_S16x2096128_o0_1023_S16x2095104) shapeCasts_S16x2095104_S16x1024x2046)
      slices_S16x1024x2046_o0_0_0_S16x1024x1024

/-- The products of codes with the keys' codes. -/
def contentProducts (a k : FVec F S16x1024x160 .fp8e4m3) : FVec F S16x1024x1024 .f32 :=
  matmul dot_S16x1024x160_S16x1024x160_S16x1024x1024_2_2_1_1_0_0 none a k (constant S16x1024x1024 .f32 0x00000000#32)

/-- The two products, scaled and added. -/
def combine (x y : FVec F S16x1024x1024 .f32) (sa sb : FVec F S16x1024x1 .f32) (ka kb : FVec F S16x1x1 .f32) : FVec F S16x1024x1024 .f32 :=
  mulf (addf
    (mulf (mulf x (broadcastTo S16x1024x1024 sa broadcasts_S16x1024x1_S16x1024x1024)) (broadcastTo S16x1024x1024 ka broadcasts_S16x1x1_S16x1024x1024))
    (mulf (mulf y (broadcastTo S16x1024x1024 sb broadcasts_S16x1024x1_S16x1024x1024)) (broadcastTo S16x1024x1024 kb broadcasts_S16x1x1_S16x1024x1024)))
    (broadcast S16x1024x1024 (Named.named κ "score_scale" 0x3DA1E89B#32))

/-- The exponentials of a row minus its largest entry. -/
def weights (s : FVec F S16x1024x1024 .f32) : FVec F S16x1024x1024 .f32 :=
  exp (subf s (broadcastTo S16x1024x1024 (shapeCast S16x1024x1 (multiReduction .maximumf [2] S16x1024 s 0xFF800000#32 reduces_S16x1024x1024_S16x1024 (.inl rfl) rfl)
    shapeCasts_S16x1024_S16x1024x1) broadcasts_S16x1024x1_S16x1024x1024))

/-- Codes with batch and head joined. -/
def joined (X : FVec F S2x1024x8x160 .fp8e4m3) : FVec F S16x1024x160 .fp8e4m3 :=
  shapeCast S16x1024x160 (transpose S2x8x1024x160 [0, 2, 1, 3] X transposes_S2x1024x8x160_p0_2_1_3_S2x8x1024x160) shapeCasts_S2x8x1024x160_S16x1024x160
/-- Scales with batch and head joined. -/
def joinedScale (X : FVec F S2x1024x8 .f32) : FVec F S16x1024x1 .f32 :=
  shapeCast S16x1024x1 (transpose S2x8x1024 [0, 2, 1] X transposes_S2x1024x8_p0_2_1_S2x8x1024) shapeCasts_S2x8x1024_S16x1024x1
/-- Factors with batch and head joined. -/
def joinedFactor (X : FVec F S2x8 .f32) : FVec F S16x1x1 .f32 := shapeCast S16x1x1 X shapeCasts_S2x8_S16x1x1
/-- The position factor, one per head, for every batch. -/
def joinedPositionFactor (X : FVec F S8 .f32) : FVec F S16x1x1 .f32 :=
  shapeCast S16x1x1 (broadcastTo S2x8 (shapeCast S1x8 (shapeCast S1x8 X shapeCasts_S8_S1x8) shapeCasts_S1x8_S1x8) broadcasts_S1x8_S2x8) shapeCasts_S2x8_S16x1x1
/-- The position codes, for every batch. -/
def joinedPositions (X : FVec F S2x8x2047x160 .fp8e4m3) : FVec F S16x2047x160 .fp8e4m3 :=
  shapeCast S16x2047x160 X shapeCasts_S2x8x2047x160_S16x2047x160

/-- The scores, before the softmax. -/
def scores (v31 : FVec F S2x1024x8x160 .fp8e4m3) (v32 : FVec F S2x1024x8 .f32) (v62 : FVec F S2x1024x8x160 .fp8e4m3) (v63 : FVec F S2x1024x8 .f32)
    (v72 : FVec F S2x8x2047x160 .fp8e4m3) (v74 : Vec F S2x8 .f32) (v78 : Vec F S8 .f32) (v85 : Vec F S2x1024x8x160 .fp8e4m3) : FVec F S16x1024x1024 .f32 :=
  combine (contentProducts (joined v31) (joined v85)) (shift (positionProducts (joined v62) (joinedPositions v72))) (joinedScale v32) (joinedScale v63)
    (joinedFactor v74) (joinedPositionFactor v78)

/-- The weights in terms of the definitions above. -/
theorem pay15_eq (v31 : FVec F S2x1024x8x160 .fp8e4m3) (v32 : FVec F S2x1024x8 .f32) (v62 : FVec F S2x1024x8x160 .fp8e4m3) (v63 : FVec F S2x1024x8 .f32)
    (v72 : FVec F S2x8x2047x160 .fp8e4m3) (v74 : Vec F S2x8 .f32) (v78 : Vec F S8 .f32) (v85 : Vec F S2x1024x8x160 .fp8e4m3) :
    k0_pay15 v31 v32 v62 v63 v72 v74 v78 v85 = weights (scores v31 v32 v62 v63 v72 v74 v78 v85) := by sl_kernel_rfl

end

/-- An entry of the products with the positions. -/
theorem positionProducts_apply (b : FVec Ideal S16x1024x160 .fp8e4m3) (p : FVec Ideal S16x2047x160 .fp8e4m3) (g : Fin 16) (i : Fin 1024) (l : Fin 2047) :
    positionProducts (F := Ideal) b p (ix3 g i l) = ∑ e : Fin 160, b (ix3 g i e) * p (ix3 g l e) := by
  pointwise [positionProducts]

/-- An entry of the products with the keys. -/
theorem contentProducts_apply (a k : FVec Ideal S16x1024x160 .fp8e4m3) (g : Fin 16) (i j : Fin 1024) :
    contentProducts (F := Ideal) a k (ix3 g i j) = ∑ e : Fin 160, a (ix3 g i e) * k (ix3 g j e) := by
  pointwise [contentProducts]

/-- A last axis of length one added to one number per row; a row's or a head's number repeated. -/
theorem row_unit_added (y : FVec Ideal S16x1024 .f32) (g : Fin 16) (i : Fin 1024) :
    shapeCast S16x1024x1 y shapeCasts_S16x1024_S16x1024x1 (ix3 g i 0) = y (ix2 g i) := by
  refine shapeCast_apply _ _ (ix3 g i 0) (ix2 g i) ?_
  rw [Shape.rowMajor_val_two, Shape.rowMajor_val_three]
  show g.val * 1024 + i.val = (g.val * 1024 + i.val) * 1 + 0
  omega

/-- One number per row, repeated along the row. -/
theorem row_repeated (y : FVec Ideal S16x1024x1 .f32) (g : Fin 16) (i j : Fin 1024) :
    broadcastTo S16x1024x1024 y broadcasts_S16x1024x1_S16x1024x1024 (ix3 g i j) = y (ix3 g i 0) := by
  refine broadcastTo_apply _ _ (ix3 g i j) (ix3 g i 0) fun a => ?_
  match a with
  | ⟨0, _⟩ => rfl
  | ⟨1, _⟩ => rfl
  | ⟨2, _⟩ => rfl

/-- One number per head, repeated over its scores. -/
theorem head_repeated (y : FVec Ideal S16x1x1 .f32) (g : Fin 16) (i j : Fin 1024) :
    broadcastTo S16x1024x1024 y broadcasts_S16x1x1_S16x1024x1024 (ix3 g i j) = y (ix3 g 0 0) := by
  refine broadcastTo_apply _ _ (ix3 g i j) (ix3 g 0 0) fun a => ?_
  match a with
  | ⟨0, _⟩ => rfl
  | ⟨1, _⟩ => rfl
  | ⟨2, _⟩ => rfl

/-- An entry of the scaled sum. -/
theorem combine_apply (x y : FVec Ideal S16x1024x1024 .f32) (sa sb : FVec Ideal S16x1024x1 .f32) (ka kb : FVec Ideal S16x1x1 .f32) (g : Fin 16) (i j : Fin 1024) :
    combine (F := Ideal) x y sa sb ka kb (ix3 g i j) = (x (ix3 g i j) * sa (ix3 g i 0) * ka (ix3 g 0 0) + y (ix3 g i j) * sb (ix3 g i 0) * kb (ix3 g 0 0))
      * (((Real.sqrt 160)⁻¹ : ℝ) : EReal) := by
  rw [← row_repeated sa g i j, ← row_repeated sb g i j, ← head_repeated ka g i j, ← head_repeated kb g i j]
  unfold combine
  generalize broadcastTo S16x1024x1024 sa broadcasts_S16x1024x1_S16x1024x1024 = a
  generalize broadcastTo S16x1024x1024 sb broadcasts_S16x1024x1_S16x1024x1024 = b
  generalize broadcastTo S16x1024x1024 ka broadcasts_S16x1x1_S16x1024x1024 = c
  generalize broadcastTo S16x1024x1024 kb broadcasts_S16x1x1_S16x1024x1024 = d
  generalize (ix3 g i j : S16x1024x1024.Idx) = k
  rfl

/-- The largest score of a row. -/
theorem row_most (s : FVec Ideal S16x1024x1024 .f32) (g : Fin 16) (i : Fin 1024) :
    multiReduction .maximumf [2] S16x1024 s 0xFF800000#32 reduces_S16x1024x1024_S16x1024 (.inl rfl) rfl (ix2 g i) = Softmax.most (fun j => s (ix3 g i j)) := by
  pointwise
  rw [Scalars.ofBits_bot]
  rfl

/-- The sum of a row. -/
theorem row_sum (s : FVec Ideal S16x1024x1024 .f32) (g : Fin 16) (i : Fin 1024) :
    multiReduction .add [2] S16x1024 s 0x00000000#32 reduces_S16x1024x1024_S16x1024 (.inl rfl) rfl (ix2 g i) = ∑ j, s (ix3 g i j) := by
  pointwise

/-- An entry of the weights. -/
theorem weights_apply (s : FVec Ideal S16x1024x1024 .f32) (g : Fin 16) (i j : Fin 1024) :
    weights (F := Ideal) s (ix3 g i j) = Softmax.weight (fun j => s (ix3 g i j)) j := by
  have e : broadcastTo S16x1024x1024 (shapeCast S16x1024x1 (multiReduction .maximumf [2] S16x1024 s 0xFF800000#32 reduces_S16x1024x1024_S16x1024 (.inl rfl) rfl)
      shapeCasts_S16x1024_S16x1024x1) broadcasts_S16x1024x1_S16x1024x1024 (ix3 g i j) = Softmax.most (fun j => s (ix3 g i j)) :=
    (row_repeated _ g i j).trans ((row_unit_added _ g i).trans (row_most s g i))
  exact (exp_at _ _).trans (congrArg Ideal.exp ((subf_at _ _ _).trans (congrArg (s (ix3 g i j) - ·) e)))

/-- A row's sum of weights. -/
theorem sums_apply (v31 : FVec Ideal S2x1024x8x160 .fp8e4m3) (v32 : FVec Ideal S2x1024x8 .f32) (v62 : FVec Ideal S2x1024x8x160 .fp8e4m3) (v63 : FVec Ideal S2x1024x8 .f32)
    (v72 : FVec Ideal S2x8x2047x160 .fp8e4m3) (v74 : Vec Ideal S2x8 .f32) (v78 : Vec Ideal S8 .f32) (v85 : Vec Ideal S2x1024x8x160 .fp8e4m3) (g : Fin 16) (i : Fin 1024) :
    k0_pay16 (F := Ideal) v31 v32 v62 v63 v72 v74 v78 v85 (ix3 g i 0) = ∑ j : Fin 1024, k0_pay15 (F := Ideal) v31 v32 v62 v63 v72 v74 v78 v85 (ix3 g i j) := by
  unfold k0_pay16
  generalize k0_pay15 (F := Ideal) v31 v32 v62 v63 v72 v74 v78 v85 = e
  exact (row_unit_added _ g i).trans (row_sum e g i)

/-- An entry of the scores, from codes and scales. -/
theorem scores_apply (v31 : FVec Ideal S2x1024x8x160 .fp8e4m3) (v32 : FVec Ideal S2x1024x8 .f32) (v62 : FVec Ideal S2x1024x8x160 .fp8e4m3) (v63 : FVec Ideal S2x1024x8 .f32)
    (P : Vec Ideal S2047x8x160 .fp8e4m3) (v74 : Vec Ideal S2x8 .f32) (v78 : Vec Ideal S8 .f32) (v85 : Vec Ideal S2x1024x8x160 .fp8e4m3) (g : Fin 16) (i j : Fin 1024) :
    scores (F := Ideal) v31 v32 v62 v63 (k0_pay13 (F := Ideal) P) v74 v78 v85 (ix3 g i j)
      = ((∑ e : Fin 160, v31 (ix4 (bat g) i (hd g) e) * v85 (ix4 (bat g) j (hd g) e)) * v32 (ix3 (bat g) i (hd g)) * v74 (ix2 (bat g) (hd g))
        + (∑ e : Fin 160, v62 (ix4 (bat g) i (hd g) e) * P (ix3 (Spec.rel i j) (hd g) e)) * v63 (ix3 (bat g) i (hd g)) * v78 (ix1 (hd g)))
        * (((Real.sqrt 160)⁻¹ : ℝ) : EReal) := by
  unfold scores
  rw [combine_apply, contentProducts_apply]
  have hs : shift (positionProducts (joined v62) (joinedPositions (k0_pay13 (F := Ideal) P))) (ix3 g i j)
      = ∑ e : Fin 160, v62 (ix4 (bat g) i (hd g) e) * P (ix3 (Spec.rel i j) (hd g) e) :=
    (shifted_apply _ g i j).trans ((positionProducts_apply _ _ g i _).trans
      (Finset.sum_congr rfl fun e _ => congrArg₂ (· * ·) (joined_codes v62 g i e) (joined_positions P g _ e)))
  have hc : (∑ e : Fin 160, joined v31 (ix3 g i e) * joined v85 (ix3 g j e)) = ∑ e : Fin 160, v31 (ix4 (bat g) i (hd g) e) * v85 (ix4 (bat g) j (hd g) e) :=
    Finset.sum_congr rfl fun e _ => congrArg₂ (· * ·) (joined_codes v31 g i e) (joined_codes v85 g j e)
  have ha : joinedScale (F := Ideal) v32 (ix3 g i 0) = v32 (ix3 (bat g) i (hd g)) := joined_scale v32 g i
  have hb : joinedScale (F := Ideal) v63 (ix3 g i 0) = v63 (ix3 (bat g) i (hd g)) := joined_scale v63 g i
  have hk : joinedFactor (F := Ideal) v74 (ix3 g 0 0) = v74 (ix2 (bat g) (hd g)) := joined_factor v74 g
  have hp : joinedPositionFactor (F := Ideal) v78 (ix3 g 0 0) = v78 (ix1 (hd g)) := joined_position_factor v78 g
  rw [hs, hc, ha, hb, hk, hp]

end Cert.ReferenceIdeal.Row

end
-- ==== Proof.RefValue.lean ====
/- The reference's weighted values at the extended reals, entry by entry. -/
module

public import proofs.«01_k».proof.Proof.RefScore
public import Idealize.ShloMosaic.Lib.Pointwise
public import Idealize.ShloMosaic.PureOps.Ideal.Laws

@[expose] public section

set_option maxRecDepth 16384

noncomputable section

namespace Cert.ReferenceIdeal.Row

open Cert.ReferenceIdeal Cert.ReferenceIdeal.Gen
open Idealize.ShloMosaic Idealize.ShloMosaic.TcCoe Idealize.ShloMosaic.Pointwise Idealize.ShloMosaic.Tactic

/-- The weights divided by their sums. -/
def normalised (w : FVec Ideal S16x1024x1024 .f32) (l : FVec Ideal S16x1024x1 .f32) : FVec Ideal S16x1024x1024 .bf16 :=
  truncf .bf16 (mulf w (broadcastTo S16x1024x1024 (divf (broadcast S16x1024x1 (Scalar.ofBits .f32 0x3F800000#32)) l) broadcasts_S16x1024x1_S16x1024x1024)) bitsLt_bf16_f32
/-- The weighted sums of the values' codes, times the values' scale. -/
def gathered (p : FVec Ideal S16x1024x1024 .bf16) (v : FVec Ideal S16x1024x160 .fp8e4m3) (vs : FVec Ideal S16x1x1 .f32) : FVec Ideal S16x1024x160 .f32 :=
  mulf (matmul dot_S16x1024x1024_S16x1024x160_S16x1024x160_2_1_1_2_0_0 none p (extf .bf16 v bitsLt_fp8e4m3_bf16) (constant S16x1024x160 .f32 0x00000000#32))
    (broadcastTo S16x1024x160 vs broadcasts_S16x1x1_S16x1024x160)
/-- The heads side by side. -/
def sideBySide (x : FVec Ideal S16x1024x160 .f32) : FVec Ideal S2x1024x1280 .bf16 :=
  truncf .bf16 (shapeCast S2x1024x1280 (transpose S2x1024x8x160 [0, 2, 1, 3] (shapeCast S2x8x1024x160 x shapeCasts_S16x1024x160_S2x8x1024x160)
    transposes_S2x8x1024x160_p0_2_1_3_S2x1024x8x160) shapeCasts_S2x1024x8x160_S2x1024x1280) bitsLt_bf16_f32

/-- The output in terms of the definitions above. -/
theorem pay1_eq (vs : FVec Ideal S16x1x1 .f32) (w : FVec Ideal S16x1024x1024 .f32) (l : FVec Ideal S16x1024x1 .f32) (V : Vec Ideal S2x1024x8x160 .fp8e4m3) :
    k0_pay1 (F := Ideal) vs w l (Scalar.ofBits .f32 0x3F800000#32) V = sideBySide (gathered (normalised w l) (joined V) vs) := by sl_kernel_rfl

/-- A weight times the reciprocal of its row's sum. -/
theorem normalised_apply (w : FVec Ideal S16x1024x1024 .f32) (l : FVec Ideal S16x1024x1 .f32) (g : Fin 16) (i j : Fin 1024) :
    normalised w l (ix3 g i j) = w (ix3 g i j) * Ideal.div 1 (l (ix3 g i 0)) := by
  have e : broadcastTo S16x1024x1024 (divf (broadcast S16x1024x1 (Scalar.ofBits .f32 0x3F800000#32)) l) broadcasts_S16x1024x1_S16x1024x1024 (ix3 g i j)
      = Ideal.div 1 (l (ix3 g i 0)) := by
    rw [row_repeated, ← Scalars.ofBits_one]
    exact divf_at _ _ _
  show mulf w _ (ix3 g i j) = _
  exact (mulf_at _ _ _).trans (congrArg (w (ix3 g i j) * ·) e)

/-- An entry of the scaled weighted sums. -/
theorem gathered_apply (p : FVec Ideal S16x1024x1024 .bf16) (v : FVec Ideal S16x1024x160 .fp8e4m3) (vs : FVec Ideal S16x1x1 .f32) (g : Fin 16) (i : Fin 1024) (d : Fin 160) :
    gathered p v vs (ix3 g i d) = (∑ j : Fin 1024, p (ix3 g i j) * v (ix3 g j d)) * vs (ix3 g 0 0) := by
  have e : broadcastTo S16x1024x160 vs broadcasts_S16x1x1_S16x1024x160 (ix3 g i d) = vs (ix3 g 0 0) := by
    refine broadcastTo_apply _ _ (ix3 g i d) (ix3 g 0 0) fun a => ?_
    match a with
    | ⟨0, _⟩ => rfl
    | ⟨1, _⟩ => rfl
    | ⟨2, _⟩ => rfl
  have p : matmul dot_S16x1024x1024_S16x1024x160_S16x1024x160_2_1_1_2_0_0 none p (extf .bf16 v bitsLt_fp8e4m3_bf16) (constant S16x1024x160 .f32 0x00000000#32) (ix3 g i d)
      = ∑ j : Fin 1024, p (ix3 g i j) * v (ix3 g j d) := by
    pointwise
  exact (mulf_at _ _ _).trans (congrArg₂ (· * ·) p e)

/-- An entry of the heads side by side. -/
theorem sideBySide_apply (x : FVec Ideal S16x1024x160 .f32) (n : Fin 2) (i : Fin 1024) (k : Fin 1280) :
    sideBySide x (ix3 n i k) = x (ix3 (⟨n.val * 8 + k.val / 160, by omega⟩ : Fin 16) i (⟨k.val % 160, Nat.mod_lt _ (by norm_num)⟩ : Fin 160)) := by
  show shapeCast S2x1024x1280 (transpose S2x1024x8x160 [0, 2, 1, 3] (shapeCast S2x8x1024x160 x shapeCasts_S16x1024x160_S2x8x1024x160)
    transposes_S2x8x1024x160_p0_2_1_3_S2x1024x8x160) shapeCasts_S2x1024x8x160_S2x1024x1280 (ix3 n i k) = _
  have e : ∀ (X : FVec Ideal S2x8x1024x160 .f32) (h : Fin 8) (d : Fin 160), transpose S2x1024x8x160 [0, 2, 1, 3] X transposes_S2x8x1024x160_p0_2_1_3_S2x1024x8x160 (ix4 n i h d) = X (ix4 n h i d) := by
    intro X h d
    pointwise
  refine (shapeCast_apply _ _ (ix3 n i k) (ix4 n i (⟨k.val / 160, by omega⟩ : Fin 8) (⟨k.val % 160, Nat.mod_lt _ (by norm_num)⟩ : Fin 160)) ?_).trans ?_
  · rw [Shape.rowMajor_val_four, Shape.rowMajor_val_three]
    show ((n.val * 1024 + i.val) * 8 + k.val / 160) * 160 + k.val % 160 = (n.val * 1024 + i.val) * 1280 + k.val
    omega
  refine (e _ _ _).trans (shapeCast_apply _ _ _ _ ?_)
  rw [Shape.rowMajor_val_four, Shape.rowMajor_val_three]
  show ((n.val * 8 + k.val / 160) * 1024 + i.val) * 160 + k.val % 160 = ((n.val * 8 + k.val / 160) * 1024 + i.val) * 160 + k.val % 160
  rfl

/-- The attention output of the reference's lines, from the codes and scales that they read. -/
theorem weighted_apply (vs : Vec Ideal S2x8 .f32) (w : FVec Ideal S16x1024x1024 .f32) (l : FVec Ideal S16x1024x1 .f32) (V : Vec Ideal S2x1024x8x160 .fp8e4m3)
    (n : Fin 2) (i : Fin 1024) (k : Fin 1280) (g : Fin 16) (hg : g.val = n.val * 8 + k.val / 160) :
    k0_pay1 (F := Ideal) (k0_pay14 (F := Ideal) vs) w l (Scalar.ofBits .f32 0x3F800000#32) V (ix3 n i k)
      = (∑ j : Fin 1024, w (ix3 g i j) * Ideal.div 1 (l (ix3 g i 0)) * V (ix4 (bat g) j (hd g) (⟨k.val % 160, Nat.mod_lt _ (by norm_num)⟩ : Fin 160))) * vs (ix2 (bat g) (hd g)) := by
  have key : ∀ p, (⟨n.val * 8 + k.val / 160, p⟩ : Fin 16) = g := fun _ => Fin.ext hg.symm
  rw [pay1_eq, sideBySide_apply, key, gathered_apply]
  refine congrArg₂ (· * ·) (Finset.sum_congr rfl fun j _ => ?_) (joined_factor vs _)
  exact congrArg₂ (· * ·) (normalised_apply w l _ i j) (joined_codes V _ j _)

end Cert.ReferenceIdeal.Row

end
-- ==== Proof.RefResults.lean ====
/- The reference's five results as functions of the arguments' entries. -/
module

public import proofs.«01_k».proof.Proof.RefQuant
public import proofs.«01_k».proof.Proof.RefValue

@[expose] public section

set_option maxRecDepth 16384

noncomputable section

namespace Cert.ReferenceIdeal.Row

open Cert.ReferenceIdeal Cert.ReferenceIdeal.Gen Cert.ReferenceIdeal.Value
open Idealize.ShloMosaic Idealize.ShloMosaic.TcCoe Idealize.ShloMosaic.Pointwise Idealize.ShloMosaic.Tactic

/-- The second bias' codes and scales are computed by the same lines as the first one's. -/
theorem same_codes (q : Vec Ideal S2x1024x8x160 .bf16) (b : Vec Ideal S8x160 .f32) :
    k0_pay11 (F := Ideal) (k0_pay7 (F := Ideal) q b) (k0_pay8 (F := Ideal) q b) (k0_pay9 (F := Ideal)) = k0_pay5 (F := Ideal) q b := by sl_kernel_rfl
/-- Likewise its scales. -/
theorem same_scales (q : Vec Ideal S2x1024x8x160 .bf16) (b : Vec Ideal S8x160 .f32) :
    k0_pay12 (F := Ideal) (k0_pay8 (F := Ideal) q b) (k0_pay9 (F := Ideal)) = k0_pay6 (F := Ideal) q b := by sl_kernel_rfl

section
variable (a0 : Vec Ideal S2x1024x8x160 .bf16) (a1 : Vec Ideal S2x1024x8x160 .fp8e4m3) (a2 : Vec Ideal S2x8 .f32) (a3 : Vec Ideal S2x1024x8x160 .fp8e4m3)
  (a4 : Vec Ideal S2x8 .f32) (a5 : Vec Ideal S2047x8x160 .fp8e4m3) (a6 : Vec Ideal S8 .f32) (a7 : Vec Ideal S8x160 .f32) (a8 : Vec Ideal S8x160 .f32)

/-- Each load reads the whole of its array. -/
theorem pay17_eq : k0_pay17 (F := Ideal) a0 a1 a2 a3 a4 a5 a6 a7 a8 = k0_pay5 (F := Ideal) a0 a7 := by
  unfold k0_pay17
  rw [View.ld_unit_zero (S := S2x1024x8x160) hz0 _ a0, View.ld_unit_zero (S := S8x160) hz7 _ a7]
/-- The first bias' scales, from the arrays. -/
theorem pay18_eq : k0_pay18 (F := Ideal) a0 a1 a2 a3 a4 a5 a6 a7 a8 = k0_pay6 (F := Ideal) a0 a7 := by
  unfold k0_pay18
  rw [View.ld_unit_zero (S := S2x1024x8x160) hz0 _ a0, View.ld_unit_zero (S := S8x160) hz7 _ a7]
/-- The second bias' codes, from the arrays. -/
theorem pay22_eq : k0_pay22 (F := Ideal) a0 a1 a2 a3 a4 a5 a6 a7 a8 = k0_pay5 (F := Ideal) a0 a8 := by
  unfold k0_pay22 k0_pay19 k0_pay20 k0_pay21
  rw [View.ld_unit_zero (S := S2x1024x8x160) hz0 _ a0, View.ld_unit_zero (S := S8x160) hz7 _ a8]
  exact same_codes a0 a8
/-- The second bias' scales, from the arrays. -/
theorem pay23_eq : k0_pay23 (F := Ideal) a0 a1 a2 a3 a4 a5 a6 a7 a8 = k0_pay6 (F := Ideal) a0 a8 := by
  unfold k0_pay23 k0_pay20 k0_pay21
  rw [View.ld_unit_zero (S := S2x1024x8x160) hz0 _ a0, View.ld_unit_zero (S := S8x160) hz7 _ a8]
  exact same_scales a0 a8
/-- The position codes, from the array. -/
theorem pay24_eq : k0_pay24 (F := Ideal) a0 a1 a2 a3 a4 a5 a6 a7 a8 = k0_pay13 (F := Ideal) a5 := by
  unfold k0_pay24
  rw [View.ld_unit_zero (S := S2047x8x160) hz5 _ a5]

/-- The codes and scales of the two biased queries. -/
theorem codes_u (n : Fin 2) (i : Fin 1024) (h : Fin 8) (d : Fin 160) :
    G10 (F := Ideal) a0 a1 a2 a3 a4 a5 a6 a7 a8 (ix4 n i h d) = Cert.Row.code (rowOf a0 a7 n i h) d :=
  (congrFun (pay17_eq a0 a1 a2 a3 a4 a5 a6 a7 a8) _).trans (code_apply a0 a7 n i h d)
/-- The scales of the queries with the first bias. -/
theorem scales_u (n : Fin 2) (i : Fin 1024) (h : Fin 8) :
    G11 (F := Ideal) a0 a1 a2 a3 a4 a5 a6 a7 a8 (ix3 n i h) = Cert.Row.scale (rowOf a0 a7 n i h) :=
  (congrFun (pay18_eq a0 a1 a2 a3 a4 a5 a6 a7 a8) _).trans (scale_apply a0 a7 n i h)
/-- The codes of the queries with the second bias. -/
theorem codes_v (n : Fin 2) (i : Fin 1024) (h : Fin 8) (d : Fin 160) :
    G12 (F := Ideal) a0 a1 a2 a3 a4 a5 a6 a7 a8 (ix4 n i h d) = Cert.Row.code (rowOf a0 a8 n i h) d :=
  (congrFun (pay22_eq a0 a1 a2 a3 a4 a5 a6 a7 a8) _).trans (code_apply a0 a8 n i h d)
/-- The scales of the queries with the second bias. -/
theorem scales_v (n : Fin 2) (i : Fin 1024) (h : Fin 8) :
    G13 (F := Ideal) a0 a1 a2 a3 a4 a5 a6 a7 a8 (ix3 n i h) = Cert.Row.scale (rowOf a0 a8 n i h) :=
  (congrFun (pay23_eq a0 a1 a2 a3 a4 a5 a6 a7 a8) _).trans (scale_apply a0 a8 n i h)

/-- The scores of a query of an entry of the joined batch and head axis. -/
abbrev scoresOf (g : Fin 16) (i : Fin 1024) : Fin 1024 → EReal :=
  Cert.Row.score (rowOf a0 a7 (bat g) i (hd g)) (rowOf a0 a8 (bat g) i (hd g)) (a2 (ix2 (bat g) (hd g))) (a6 (ix1 (hd g)))
    (fun e j => a1 (ix4 (bat g) j (hd g) e)) (fun e j => a5 (ix3 (Spec.rel i j) (hd g) e))

/-- A weight is the exponential of a score minus the row's largest. -/
theorem weight_apply (g : Fin 16) (i j : Fin 1024) :
    k0_pay15 (F := Ideal) (k0_pay5 (F := Ideal) a0 a7) (k0_pay6 (F := Ideal) a0 a7) (k0_pay5 (F := Ideal) a0 a8) (k0_pay6 (F := Ideal) a0 a8) (k0_pay13 (F := Ideal) a5) a2 a6 a1 (ix3 g i j)
      = Softmax.weight (scoresOf a0 a1 a2 a5 a6 a7 a8 g i) j := by
  rw [pay15_eq, weights_apply]
  refine congrArg (fun s => Softmax.weight s j) (funext fun j => ?_)
  rw [scores_apply]
  simp only [code_apply, scale_apply]
  unfold scoresOf Cert.Row.score
  exact rfl

/-- The attention output. -/
theorem attention (n : Fin 2) (i : Fin 1024) (k : Fin 1280) :
    G9 (F := Ideal) a0 a1 a2 a3 a4 a5 a6 a7 a8 (ix3 n i k)
      = Spec.out (fun n i h d => a0 (ix4 n i h d)) (fun n i h d => a1 (ix4 n i h d)) (fun n h => a2 (ix2 n h)) (fun n i h d => a3 (ix4 n i h d)) (fun n h => a4 (ix2 n h))
        (fun l h d => a5 (ix3 l h d)) (fun h => a6 (ix1 h)) (fun h d => a7 (ix2 h d)) (fun h d => a8 (ix2 h d))
        n i (⟨k.val / 160, by omega⟩ : Fin 8) (⟨k.val % 160, Nat.mod_lt _ (by norm_num)⟩ : Fin 160) := by
  obtain ⟨g, hg⟩ : ∃ g : Fin 16, g.val = n.val * 8 + k.val / 160 := ⟨⟨n.val * 8 + k.val / 160, by omega⟩, rfl⟩
  have hb : bat g = n := Fin.ext (by show g.val / 8 = n.val; omega)
  have hh : hd g = (⟨k.val / 160, by omega⟩ : Fin 8) := Fin.ext (by show g.val % 8 = k.val / 160; omega)
  rw [← hh, ← hb]
  unfold G9
  rw [pay17_eq, pay18_eq, pay22_eq, pay23_eq, pay24_eq]
  refine (congrArg _ (congrArg (fun n => ix3 n i k) hb)).trans ((weighted_apply a4 _ _ a3 n i k g hg).trans ?_)
  simp only [sums_apply, weight_apply]
  unfold Spec.out Cert.Row.attend
  exact rfl

end

end Cert.ReferenceIdeal.Row

end
-- ==== Proof.Finite.lean ====
/- The precondition read: the rows of biased queries are real numbers of bounded magnitude. -/
module

public import proofs.«01_k».proof.Pre_finite_queries
public import proofs.«01_k».proof.Proof.Spec
public import Idealize.ShloMosaic.Lib.ReduceAll
public import Idealize.ShloMosaic.Lib.Pointwise
public import Idealize.ShloMosaic.PureOps.Ideal.Laws

@[expose] public section

set_option maxRecDepth 16384

noncomputable section

namespace Cert.Pre_finite_queries

open Idealize.ShloMosaic Idealize.ShloMosaic.Pointwise

/-- The shape relations that the predicate states. -/
instance facts : Facts where
  bitsLt_bf16_f32 := by decide
  bcast_S_S2x1024x8x160 := by decide
  reducesTo_S2x1024x8x160_S_d0_1_2_3 := by decide
  h_S_ := by decide
  bcast_S_S8x160 := by decide
  reducesTo_S8x160_S_d0_1 := by decide

/-- The largest single-precision number is at most the 128th power of two. -/
theorem largest : ∃ c : ℝ, Ideal.ofBits .f32 0x7F7FFFFF#32 = (c : EReal) ∧ c ≤ (2 : ℝ) ^ (128 : ℤ) := by
  refine ⟨(16777215 : ℝ) * (2 : ℝ) ^ (104 : ℤ), ?_, by norm_num⟩
  rw [Scalars.ofBits_ieee]
  simp [Ideal.ieee, -EReal.coe_mul]

/-- A value whose magnitude is at most the largest single-precision number is a real number within the bound. -/
theorem real_of_le {x : EReal} (h : max x (-x) ≤ Ideal.ofBits .f32 0x7F7FFFFF#32) : ∃ r : ℝ, x = (r : EReal) ∧ |r| ≤ (2 : ℝ) ^ (128 : ℤ) := by
  obtain ⟨c, hc, hb⟩ := largest
  rw [hc] at h
  have h1 := (le_max_left _ _).trans h
  have h2 := (le_max_right _ _).trans h
  induction x with
  | bot => exact absurd h2 (by simp)
  | top => exact absurd h1 (by simp)
  | coe r =>
    have h3 : r ≤ c := EReal.coe_le_coe_iff.1 h1
    have h4 : -r ≤ c := EReal.coe_le_coe_iff.1 (by rw [EReal.coe_neg]; exact h2)
    exact ⟨r, rfl, (abs_le.2 ⟨by linarith, h3⟩).trans hb⟩

/-- Sums of two such values, row by row. -/
theorem row_finite {q : Fin 2 → Fin 1024 → Fin 8 → Fin 160 → EReal} {b : Fin 8 → Fin 160 → EReal}
    (hq : ∀ n i h d, max (q n i h d) (-q n i h d) ≤ Ideal.ofBits .f32 0x7F7FFFFF#32)
    (hb : ∀ h d, max (b h d) (-b h d) ≤ Ideal.ofBits .f32 0x7F7FFFFF#32) (n : Fin 2) (i : Fin 1024) (h : Fin 8) :
    Row.Finite (Spec.row q b n i h) := by
  intro d
  obtain ⟨r, hr, h1⟩ := real_of_le (hq n i h d)
  obtain ⟨s, hs, h2⟩ := real_of_le (hb h d)
  refine ⟨r + s, ?_, ?_⟩
  · show q n i h d + b h d = _
    rw [hr, hs, EReal.coe_add]
  · refine (abs_add_le r s).trans ((add_le_add h1 h2).trans (le_of_eq ?_))
    norm_num

/-- A result without axes has one index. -/
instance : Subsingleton S_.Idx := ⟨fun a b => funext fun k => k.elim0⟩

/-- A comparison of magnitudes with a constant that came out all ones, read at one index. -/
theorem read_all {s : Shape} {axes : List (Fin s.rank)} (x : FVec Ideal s .f32) (y : FVec Ideal s .f32) (c : EReal) (hy : ∀ k, y k = c) (h : s.ReducesTo axes S_) (h0 : 0 < S_.numel)
    (init : IVec S_ 1) (j : S_.Idx) (e : Host.reduce IntOp.andi (cmpf .ole (Host.absf x) y) init h h0 j = 1#1) (k : s.Idx) : max (x k) (-x k) ≤ c := by
  have t := Host.reduce_andi_all _ _ _ _ j e k
  have t' : Ideal.cmp .ole (max (x k) (-x k)) (y k) = 1#1 := t
  rw [hy] at t'
  exact (Ideal.cmp_ole_eq_one _ _).1 t'

/-- What the predicate says of the query and the two biases. -/
theorem read (a0 : FVec Ideal S2x1024x8x160 .bf16) (a1 : FVec Ideal S2x1024x8x160 .fp8e4m3) (a2 : FVec Ideal S2x8 .f32) (a3 : FVec Ideal S2x1024x8x160 .fp8e4m3)
    (a4 : FVec Ideal S2x8 .f32) (a5 : FVec Ideal S2047x8x160 .fp8e4m3) (a6 : FVec Ideal S8 .f32) (a7 a8 : FVec Ideal S8x160 .f32) (j : S_.Idx)
    (e : fn (F := Ideal) a0 a1 a2 a3 a4 a5 a6 a7 a8 j = 1#1) :
    (∀ k, max (a0 k) (-a0 k) ≤ Ideal.ofBits .f32 0x7F7FFFFF#32) ∧ (∀ k, max (a7 k) (-a7 k) ≤ Ideal.ofBits .f32 0x7F7FFFFF#32)
      ∧ (∀ k, max (a8 k) (-a8 k) ≤ Ideal.ofBits .f32 0x7F7FFFFF#32) := by
  obtain ⟨e1, e8⟩ := IntOp.andi_eq_one.1 e
  obtain ⟨e0, e7⟩ := IntOp.andi_eq_one.1 e1
  exact ⟨read_all (extf .f32 a0 Facts.bitsLt_bf16_f32) _ _ (fun _ => rfl) _ _ _ j e0, read_all a7 _ _ (fun _ => rfl) _ _ _ j e7, read_all a8 _ _ (fun _ => rfl) _ _ _ j e8⟩

end Cert.Pre_finite_queries

end
-- ==== Proof.Equal.lean ====
/- The idealized kernel and the idealized reference end with equal results. -/
module

public import proofs.«01_k».proof.Defs
public import proofs.«01_k».proof.Proof.Arrays
public import proofs.«01_k».proof.Proof.RefResults
public import proofs.«01_k».proof.Proof.Finite

@[expose] public section

set_option maxRecDepth 16384

noncomputable section

namespace Cert.Equal

open Cert.KernelIdeal Cert.KernelIdeal.Value
open Idealize.ShloMosaic Idealize.ShloMosaic.TcCoe Idealize.ShloMosaic.Pointwise
open Idealize.SL Idealize.SL.Sem

section
variable (m : (ℓ : Loc nD τ sig) → Buf (Elt Ideal) ℓ) (c : Dev nD)

/-- Both biased queries are rows of bounded real numbers, on every device. -/
theorem rows (h : Pre_KernelIdeal_finite_queries m) (n : Fin 2) (i : Fin 1024) (hd : Fin 8) :
    Row.Finite (Spec.row (aq m c) (au m c) n i hd) ∧ Row.Finite (Spec.row (aq m c) (av m c) n i hd) := by
  obtain ⟨hq, hu, hv⟩ := Cert.Pre_finite_queries.read _ _ _ _ _ _ _ _ _ ix0 (congrFun (h c) ix0)
  exact ⟨Cert.Pre_finite_queries.row_finite (fun n i h d => hq (ix4 n i h d)) (fun h d => hu (ix2 h d)) n i hd,
    Cert.Pre_finite_queries.row_finite (fun n i h d => hq (ix4 n i h d)) (fun h d => hv (ix2 h d)) n i hd⟩

/-- The codes of a biased query. -/
theorem codes_eq (b : Fin 8 → Fin 160 → EReal) (hb : ∀ n i h, Row.Finite (Spec.row (aq m c) b n i h)) (X : Vec Ideal S2x1024x8x160 .fp8e4m3)
    (hX : ∀ n i h d, X (ix4 n i h d) = Row.code (Spec.row (aq m c) b n i h) d) : X = codesRes m c b := by
  funext y
  obtain ⟨n, i, h, d, rfl⟩ : ∃ (n : Fin 2) (i : Fin 1024) (h : Fin 8) (d : Fin 160), y = (ix4 n i h d : S2x1024x8x160.Idx) :=
    ⟨y 0, y 1, y 2, y 3, eq_ix4 (n0 := 2) (n1 := 1024) (n2 := 8) (n3 := 160) y⟩
  exact (hX n i h d).trans (congrFun (Row.codeBuilt_eq (hb n i h)) d).symm

/-- The scales of a biased query. -/
theorem scales_eq (b : Fin 8 → Fin 160 → EReal) (hb : ∀ n i h, Row.Finite (Spec.row (aq m c) b n i h)) (X : Vec Ideal S2x1024x8 .f32)
    (hX : ∀ n i h, X (ix3 n i h) = Row.scale (Spec.row (aq m c) b n i h)) : X = scalesRes m c b := by
  funext y
  obtain ⟨n, i, h, rfl⟩ : ∃ (n : Fin 2) (i : Fin 1024) (h : Fin 8), y = (ix3 n i h : S2x1024x8.Idx) :=
    ⟨y 0, y 1, y 2, eq_ix3 (n0 := 2) (n1 := 1024) (n2 := 8) y⟩
  exact (hX n i h).trans (Row.scaleBuilt_eq (hb n i h)).symm

/-- The attention output. -/
theorem out_eq (hb : ∀ n i h, Row.Finite (Spec.row (aq m c) (au m c) n i h) ∧ Row.Finite (Spec.row (aq m c) (av m c) n i h)) (X : Vec Ideal S2x1024x1280 .bf16)
    (hX : ∀ (n : Fin 2) (i : Fin 1024) (k : Fin 1280), X (ix3 n i k) = Spec.out (aq m c) (ak m c) (aks m c) (aw m c) (aws m c) (ap m c) (aps m c) (au m c) (av m c) n i
      (⟨k.val / 160, by omega⟩ : Fin 8) (⟨k.val % 160, Nat.mod_lt _ (by norm_num)⟩ : Fin 160)) : X = outArr m c := by
  funext y
  obtain ⟨n, i, k, rfl⟩ : ∃ (n : Fin 2) (i : Fin 1024) (k : Fin 1280), y = (ix3 n i k : S2x1024x1280.Idx) :=
    ⟨y 0, y 1, y 2, eq_ix3 (n0 := 2) (n1 := 1024) (n2 := 1280) y⟩
  exact (hX n i k).trans (Spec.outBuilt_eq (hb n i _).1 (hb n i _).2 _).symm

end

/-- From memories that agree on the arguments, and queries and biases no larger than the largest single-precision
    number, the idealized kernel and the idealized reference both run, end with the same five results and leave
    the arguments unchanged. -/
theorem algebraic : Cert.algebraic_KernelIdeal_ReferenceIdeal_pre_finite_queries := by
  intro m g m' g' hpre hm
  refine ⟨fun c => outArr m c, fun c => codesRes m c (au m c), fun c => scalesRes m c (au m c), fun c => codesRes m c (av m c), fun c => scalesRes m c (av m c),
    Cert.KernelIdeal.Value.run m g, (θ_run Cert.ReferenceIdeal.defs _ _).mono (fun r h c => ?_) (Cert.ReferenceIdeal.Value.run m' g')⟩
  obtain ⟨h0, h1, h2, h3, h4, hargs⟩ := h c
  obtain ⟨e0, e1, e2, e3, e4, e5, e6, e7, e8⟩ := hm c
  rw [e0, e1, e2, e3, e4, e5, e6, e7, e8] at h0 h1 h2 h3 h4
  have hb := rows m c hpre
  exact ⟨h0.trans (out_eq m c hb _ fun n i k => Cert.ReferenceIdeal.Row.attention _ _ _ _ _ _ _ _ _ n i k),
    h1.trans (codes_eq m c (au m c) (fun n i h => (hb n i h).1) _ fun n i h d => Cert.ReferenceIdeal.Row.codes_u _ _ _ _ _ _ _ _ _ n i h d),
    h2.trans (scales_eq m c (au m c) (fun n i h => (hb n i h).1) _ fun n i h => Cert.ReferenceIdeal.Row.scales_u _ _ _ _ _ _ _ _ _ n i h),
    h3.trans (codes_eq m c (av m c) (fun n i h => (hb n i h).2) _ fun n i h d => Cert.ReferenceIdeal.Row.codes_v _ _ _ _ _ _ _ _ _ n i h d),
    h4.trans (scales_eq m c (av m c) (fun n i h => (hb n i h).2) _ fun n i h => Cert.ReferenceIdeal.Row.scales_v _ _ _ _ _ _ _ _ _ n i h), hargs⟩

end Cert.Equal

end
-- ==== Proof.lean ====
module

public import proofs.«01_k».proof.Defs
public import proofs.«01_k».proof.Proof.KernelFrame
public import proofs.«01_k».proof.Proof.KernelIdealFrame
public import proofs.«01_k».proof.Proof.Gen.Reference.Frame
public import proofs.«01_k».proof.Proof.Gen.ReferenceIdeal.Frame
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem

/-- The kernel's score factor is named the real `1 / (log 2 * sqrt 160)` it was computed from. -/
theorem kernel_constant : Cert.preserves_Kernel_KernelIdeal :=
  IdealRules.named_const.statement Cert.KernelIdeal.κ "score_factor" .f32 0x3DE995B3#32 _ rfl

/-- The reference's two constants are named the reals `log 2` and `1 / sqrt 160`. -/
theorem reference_constants : Cert.preserves_Reference_ReferenceIdeal :=
  ⟨IdealRules.named_const.statement Cert.ReferenceIdeal.κ "ln2" .f32 0x3F317218#32 _ rfl,
    IdealRules.named_const.statement Cert.ReferenceIdeal.κ "score_scale" .f32 0x3DA1E89B#32 _ rfl⟩

/-- Every claim of the certificate. -/
theorem claim : Cert.Claim :=
  ⟨Cert.Kernel.Gen.facts, Cert.KernelIdeal.Gen.facts, Cert.ReferenceIdeal.Gen.facts, Cert.Reference.Gen.facts, Cert.Pre_finite_queries.facts,
    fun m g _ => Cert.Kernel.Run.frame m g, fun m g _ => Cert.KernelIdeal.Run.frame m g, fun m g _ => Cert.KernelIdeal.Run.frame m g,
    fun m g _ => Cert.ReferenceIdeal.Gen.frame m g, fun m g _ => Cert.ReferenceIdeal.Gen.frame m g, fun m g _ => Cert.Reference.Gen.frame m g,
    kernel_constant, reference_constants, Cert.Equal.algebraic⟩

end Cert.Proof

end
